-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual_inputs [hPre_usual_inputs : Cert.Pre_usual_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_usual_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual_inputs [hPre_usual_inputs : Cert.Pre_usual_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_usual_inputs [hKernelIdeal : Cert.KernelIdeal.Facts] [hPre_usual_inputs : Cert.Pre_usual_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_usual_inputs [hReferenceIdeal : Cert.ReferenceIdeal.Facts] [hPre_usual_inputs : Cert.Pre_usual_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_usual_inputs [hKernelIdeal : Cert.KernelIdeal.Facts] [hReferenceIdeal : Cert.ReferenceIdeal.Facts] [hPre_usual_inputs : Cert.Pre_usual_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_usual_inputs : Cert.Pre_usual_inputs.Facts),
    quiescent_Kernel (hKernel := hKernel)
    ∧ quiescent_KernelIdeal (hKernelIdeal := hKernelIdeal)
    ∧ quiescent_KernelIdeal_pre_usual_inputs (hKernelIdeal := hKernelIdeal) (hPre_usual_inputs := hPre_usual_inputs)
    ∧ quiescent_ReferenceIdeal (hReferenceIdeal := hReferenceIdeal)
    ∧ quiescent_ReferenceIdeal_pre_usual_inputs (hReferenceIdeal := hReferenceIdeal) (hPre_usual_inputs := hPre_usual_inputs)
    ∧ preserves_Kernel_KernelIdeal
    ∧ algebraic_KernelIdeal_ReferenceIdeal_pre_usual_inputs (hKernelIdeal := hKernelIdeal) (hReferenceIdeal := hReferenceIdeal) (hPre_usual_inputs := hPre_usual_inputs)
-- ==== Pre_usual_inputs.lean ====
abbrev S2x96x224x224 : Shape := ⟨4, ![2, 96, 224, 224]⟩
abbrev S96x288 : Shape := ⟨2, ![96, 288]⟩
abbrev S288 : Shape := ⟨1, ![288]⟩
abbrev S96x1x3x3 : Shape := ⟨4, ![96, 1, 3, 3]⟩
abbrev S96x96 : Shape := ⟨2, ![96, 96]⟩
abbrev S96 : Shape := ⟨1, ![96]⟩
abbrev S_ : Shape := ⟨0, ![]⟩
abbrev S96x192 : Shape := ⟨2, ![96, 192]⟩
abbrev S192 : Shape := ⟨1, ![192]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  slices_S96x288_S96x192_0_0 : S96x288.Slices ![0, 0] S96x192
  bcast_S_S96x192 : S_.BroadcastsInDim S96x192 (![] : Fin 0 → Fin S96x192.rank)
  reducesTo_S96x192_S_d0_1 : S96x192.ReducesTo [0, 1] S_
  slices_S288_S192_0 : S288.Slices ![0] S192
  bcast_S_S192 : S_.BroadcastsInDim S192 (![] : Fin 0 → Fin S192.rank)
  reducesTo_S192_S_d0 : S192.ReducesTo [0] S_
  slices_S288_S96_192 : S288.Slices ![192] S96
  bcast_S_S96 : S_.BroadcastsInDim S96 (![] : Fin 0 → Fin S96.rank)
  reducesTo_S96_S_d0 : S96.ReducesTo [0] S_

variable [Facts]

def fn_part1 {F : FTy → Type} [FloatOps F] (main_v15 : IVec S_ 1) (main_v16 : FVec F S96 .f32) (main_cst_4 : FVec F S_ .f32) : IVec S_ 1 :=
  let main_v17 : FVec F S96 .f32 := broadcastInDim S96 ![] bcast_S_S96 main_cst_4
  let main_v18 : IVec S96 1 := cmpf .oeq main_v16 main_v17
  let main_c_5 : IVec S_ 1 := constantI S_ 1 1#1
  let main_v19 : IVec S_ 1 := (fun x v => Host.reduce IntOp.andi x v reducesTo_S96_S_d0 h_S_) main_v18 main_c_5
  let main_v20 : IVec S_ 1 := andi main_v15 main_v19
  main_v20

def fn {F : FTy → Type} [FloatOps F] (main_arg0 : FVec F S2x96x224x224 .f32) (main_arg1 : FVec F S96x288 .f32) (main_arg2 : FVec F S288 .f32) (main_arg3 : FVec F S96x1x3x3 .f32) (main_arg4 : FVec F S96x96 .f32) (main_arg5 : FVec F S96 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S96x192 .f32 := (extractStridedSlice S96x192 ![0, 0] · slices_S96x288_S96x192_0_0) main_arg1
  let main_v5 : FVec F S96x192 .f32 := Host.absf main_v4
  let main_cst_0 : FVec F S_ .f32 := constant S_ .f32 0x7F800000#32
  let main_v6 : FVec F S96x192 .f32 := broadcastInDim S96x192 ![] bcast_S_S96x192 main_cst_0
  let main_v7 : IVec S96x192 1 := cmpf .olt main_v5 main_v6
  let main_c_1 : IVec S_ 1 := constantI S_ 1 1#1
  let main_v8 : IVec S_ 1 := (fun x v => Host.reduce IntOp.andi x v reducesTo_S96x192_S_d0_1 h_S_) main_v7 main_c_1
  let main_v9 : IVec S_ 1 := andi main_v3 main_v8
  let main_v10 : FVec F S192 .f32 := (extractStridedSlice S192 ![0] · slices_S288_S192_0) main_arg2
  let main_v11 : FVec F S192 .f32 := Host.absf main_v10
  let main_cst_2 : FVec F S_ .f32 := constant S_ .f32 0x7F800000#32
  let main_v12 : FVec F S192 .f32 := broadcastInDim S192 ![] bcast_S_S192 main_cst_2
  let main_v13 : IVec S192 1 := cmpf .olt main_v11 main_v12
  let main_c_3 : IVec S_ 1 := constantI S_ 1 1#1
  let main_v14 : IVec S_ 1 := (fun x v => Host.reduce IntOp.andi x v reducesTo_S192_S_d0 h_S_) main_v13 main_c_3
  let main_v15 : IVec S_ 1 := andi main_v9 main_v14
  let main_v16 : FVec F S96 .f32 := (extractStridedSlice S96 ![192] · slices_S288_S96_192) main_arg2
  let main_cst_4 : FVec F S_ .f32 := constant S_ .f32 0x00000000#32
  fn_part1 (F := F) main_v15 main_v16 main_cst_4
-- ==== Kernel.lean ====
abbrev S2x96x224x224 : Shape := ⟨4, ![2, 96, 224, 224]⟩
abbrev S96x288 : Shape := ⟨2, ![96, 288]⟩
abbrev S288 : Shape := ⟨1, ![288]⟩
abbrev S96x1x3x3 : Shape := ⟨4, ![96, 1, 3, 3]⟩
abbrev S96x96 : Shape := ⟨2, ![96, 96]⟩
abbrev S96 : Shape := ⟨1, ![96]⟩
abbrev S96x192 : Shape := ⟨2, ![96, 192]⟩
abbrev S192 : Shape := ⟨1, ![192]⟩
abbrev S1x192 : Shape := ⟨2, ![1, 192]⟩
abbrev S2x7x4x7x4x192 : Shape := ⟨6, ![2, 7, 4, 7, 4, 192]⟩
abbrev S2x224x224x96 : Shape := ⟨4, ![2, 224, 224, 96]⟩
abbrev S1x96x32x224 : Shape := ⟨4, ![1, 96, 32, 224]⟩
abbrev S1x1x4x7x4x192 : Shape := ⟨6, ![1, 1, 4, 7, 4, 192]⟩
abbrev S1x32x224x96 : Shape := ⟨4, ![1, 32, 224, 96]⟩
abbrev S96x32x224 : Shape := ⟨3, ![96, 32, 224]⟩
abbrev S32x224x96 : Shape := ⟨3, ![32, 224, 96]⟩
abbrev S7168x96 : Shape := ⟨2, ![7168, 96]⟩
abbrev S7168x192 : Shape := ⟨2, ![7168, 192]⟩
abbrev S4x8x7x4x8x192 : Shape := ⟨6, ![4, 8, 7, 4, 8, 192]⟩
abbrev S4x7x4x192 : Shape := ⟨4, ![4, 7, 4, 192]⟩
abbrev S2x7x32x7x32x96 : Shape := ⟨6, ![2, 7, 32, 7, 32, 96]⟩
abbrev S2x7x7x32x32x96 : Shape := ⟨6, ![2, 7, 7, 32, 32, 96]⟩
abbrev S2x49x32x32x96 : Shape := ⟨5, ![2, 49, 32, 32, 96]⟩
abbrev S2x49x32x32x288 : Shape := ⟨5, ![2, 49, 32, 32, 288]⟩
abbrev S1x1x1x1x288 : Shape := ⟨5, ![1, 1, 1, 1, 288]⟩
abbrev S_ : Shape := ⟨0, ![]⟩
abbrev S2x49x96 : Shape := ⟨3, ![2, 49, 96]⟩
abbrev S2x96x49 : Shape := ⟨3, ![2, 96, 49]⟩
abbrev S2x49x49 : Shape := ⟨3, ![2, 49, 49]⟩
abbrev S2x49x4 : Shape := ⟨3, ![2, 49, 4]⟩
abbrev S512 : Shape := ⟨1, ![512]⟩
abbrev S512x1 : Shape := ⟨2, ![512, 1]⟩
abbrev S1x96 : Shape := ⟨2, ![1, 96]⟩
abbrev S512x96 : Shape := ⟨2, ![512, 96]⟩
abbrev S8 : Shape := ⟨1, ![8]⟩
abbrev S1x8 : Shape := ⟨2, ![1, 8]⟩
abbrev S512x8 : Shape := ⟨2, ![512, 8]⟩
abbrev S8x1 : Shape := ⟨2, ![8, 1]⟩
abbrev S8x96 : Shape := ⟨2, ![8, 96]⟩
abbrev S96x3x3 : Shape := ⟨3, ![96, 3, 3]⟩
abbrev S3x3x96 : Shape := ⟨3, ![3, 3, 96]⟩
abbrev S9x96 : Shape := ⟨2, ![9, 96]⟩
abbrev S1x1x224x96 : Shape := ⟨4, ![1, 1, 224, 96]⟩
abbrev S1x1x4x1x4x192 : Shape := ⟨6, ![1, 1, 4, 1, 4, 192]⟩
abbrev S1x1x1 : Shape := ⟨3, ![1, 1, 1]⟩
abbrev S32x7x32x96 : Shape := ⟨4, ![32, 7, 32, 96]⟩
abbrev S224x96 : Shape := ⟨2, ![224, 96]⟩
abbrev S1x224x96 : Shape := ⟨3, ![1, 224, 96]⟩
abbrev S34x224x96 : Shape := ⟨3, ![34, 224, 96]⟩
abbrev S7616x96 : Shape := ⟨2, ![7616, 96]⟩
abbrev S34x1x96 : Shape := ⟨3, ![34, 1, 96]⟩
abbrev S34x226x96 : Shape := ⟨3, ![34, 226, 96]⟩
abbrev S1x1x96 : Shape := ⟨3, ![1, 1, 96]⟩
abbrev S32x1x32x96 : Shape := ⟨4, ![32, 1, 32, 96]⟩
abbrev S32x32x96 : Shape := ⟨3, ![32, 32, 96]⟩
abbrev S1024x96 : Shape := ⟨2, ![1024, 96]⟩
abbrev S4x4x192 : Shape := ⟨3, ![4, 4, 192]⟩
abbrev S16x192 : Shape := ⟨2, ![16, 192]⟩
abbrev S64x192 : Shape := ⟨2, ![64, 192]⟩
abbrev S64x96 : Shape := ⟨2, ![64, 96]⟩
abbrev S1024x512 : Shape := ⟨2, ![1024, 512]⟩
abbrev S1024 : Shape := ⟨1, ![1024]⟩
abbrev S1024x1 : Shape := ⟨2, ![1024, 1]⟩
abbrev S1024x8 : Shape := ⟨2, ![1024, 8]⟩

abbrev nBuf : Space → Nat
  | .hbm => 105
  | .vmem => 82
  | .smem => 1
  | _ => 0

abbrev bufTy : (tb : Table) → Fin (tcTables nBuf tb) → BufTy
  | .hbm, ⟨0, _⟩ => ⟨S2x96x224x224, .f32⟩
  | .hbm, ⟨1, _⟩ => ⟨S96x288, .f32⟩
  | .hbm, ⟨2, _⟩ => ⟨S288, .f32⟩
  | .hbm, ⟨3, _⟩ => ⟨S96x1x3x3, .f32⟩
  | .hbm, ⟨4, _⟩ => ⟨S96x96, .f32⟩
  | .hbm, ⟨5, _⟩ => ⟨S96, .f32⟩
  | .hbm, ⟨6, _⟩ => ⟨S96x192, .f32⟩
  | .hbm, ⟨7, _⟩ => ⟨S192, .f32⟩
  | .hbm, ⟨8, _⟩ => ⟨S1x192, .f32⟩
  | .hbm, ⟨9, _⟩ => ⟨S2x7x4x7x4x192, .f32⟩
  | .hbm, ⟨10, _⟩ => ⟨S2x224x224x96, .f32⟩
  | .hbm, ⟨11, _⟩ => ⟨S2x7x32x7x32x96, .f32⟩
  | .hbm, ⟨12, _⟩ => ⟨S2x7x7x32x32x96, .f32⟩
  | .hbm, ⟨13, _⟩ => ⟨S2x49x32x32x96, .f32⟩
  | .hbm, ⟨14, _⟩ => ⟨S2x49x32x32x288, .f32⟩
  | .hbm, ⟨15, _⟩ => ⟨S1x1x1x1x288, .f32⟩
  | .hbm, ⟨16, _⟩ => ⟨S2x49x32x32x288, .f32⟩
  | .hbm, ⟨17, _⟩ => ⟨S2x49x32x32x288, .f32⟩
  | .hbm, ⟨18, _⟩ => ⟨S2x49x32x32x96, .f32⟩
  | .hbm, ⟨19, _⟩ => ⟨S_, .f32⟩
  | .hbm, ⟨20, _⟩ => ⟨S2x49x96, .f32⟩
  | .hbm, ⟨21, _⟩ => ⟨S_, .f32⟩
  | .hbm, ⟨22, _⟩ => ⟨S2x49x96, .f32⟩
  | .hbm, ⟨23, _⟩ => ⟨S2x49x96, .f32⟩
  | .hbm, ⟨24, _⟩ => ⟨S2x49x32x32x96, .f32⟩
  | .hbm, ⟨25, _⟩ => ⟨S_, .f32⟩
  | .hbm, ⟨26, _⟩ => ⟨S2x49x96, .f32⟩
  | .hbm, ⟨27, _⟩ => ⟨S_, .f32⟩
  | .hbm, ⟨28, _⟩ => ⟨S2x49x96, .f32⟩
  | .hbm, ⟨29, _⟩ => ⟨S2x49x96, .f32⟩
  | .hbm, ⟨30, _⟩ => ⟨S_, .f32⟩
  | .hbm, ⟨31, _⟩ => ⟨S2x49x96, .f32⟩
  | .hbm, ⟨32, _⟩ => ⟨S2x49x96, .f32⟩
  | .hbm, ⟨33, _⟩ => ⟨S2x96x49, .f32⟩
  | .hbm, ⟨34, _⟩ => ⟨S2x49x49, .f32⟩
  | .hbm, ⟨35, _⟩ => ⟨S2x49x4, .f32⟩
  | .hbm, ⟨36, _⟩ => ⟨S96, .i32⟩
  | .hbm, ⟨37, _⟩ => ⟨S_, .i32⟩
  | .hbm, ⟨38, _⟩ => ⟨S_, .i32⟩
  | .hbm, ⟨39, _⟩ => ⟨S96, .i32⟩
  | .hbm, ⟨40, _⟩ => ⟨S96, .i32⟩
  | .hbm, ⟨41, _⟩ => ⟨S96, .i32⟩
  | .hbm, ⟨42, _⟩ => ⟨S_, .i32⟩
  | .hbm, ⟨43, _⟩ => ⟨S96, .i32⟩
  | .hbm, ⟨44, _⟩ => ⟨S96, .i1⟩
  | .hbm, ⟨45, _⟩ => ⟨S96, .i32⟩
  | .hbm, ⟨46, _⟩ => ⟨S96, .i32⟩
  | .hbm, ⟨47, _⟩ => ⟨S_, .i32⟩
  | .hbm, ⟨48, _⟩ => ⟨S96, .i32⟩
  | .hbm, ⟨49, _⟩ => ⟨S96, .i1⟩
  | .hbm, ⟨50, _⟩ => ⟨S96, .i1⟩
  | .hbm, ⟨51, _⟩ => ⟨S_, .i32⟩
  | .hbm, ⟨52, _⟩ => ⟨S96, .i32⟩
  | .hbm, ⟨53, _⟩ => ⟨S96, .i32⟩
  | .hbm, ⟨54, _⟩ => ⟨S96, .i32⟩
  | .hbm, ⟨55, _⟩ => ⟨S512, .i32⟩
  | .hbm, ⟨56, _⟩ => ⟨S_, .i32⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S512, .i32⟩
  | .hbm, ⟨65, _⟩ => ⟨S512, .i32⟩
  | .hbm, ⟨66, _⟩ => ⟨S_, .i32⟩
  | .hbm, ⟨67, _⟩ => ⟨S512, .i32⟩
  | .hbm, ⟨68, _⟩ => ⟨S512, .i1⟩
  | .hbm, ⟨69, _⟩ => ⟨S512, .i1⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S512, .i32⟩
  | .hbm, ⟨74, _⟩ => ⟨S512x1, .i32⟩
  | .hbm, ⟨75, _⟩ => ⟨S1x96, .i32⟩
  | .hbm, ⟨76, _⟩ => ⟨S512x96, .i32⟩
  | .hbm, ⟨77, _⟩ => ⟨S512x96, .i32⟩
  | .hbm, ⟨78, _⟩ => ⟨S512x96, .i1⟩
  | .hbm, ⟨79, _⟩ => ⟨S512x96, .f32⟩
  | .hbm, ⟨80, _⟩ => ⟨S512x1, .i32⟩
  | .hbm, ⟨81, _⟩ => ⟨S8, .i32⟩
  | .hbm, ⟨82, _⟩ => ⟨S1x8, .i32⟩
  | .hbm, ⟨83, _⟩ => ⟨S512x8, .i32⟩
  | .hbm, ⟨84, _⟩ => ⟨S512x8, .i32⟩
  | .hbm, ⟨85, _⟩ => ⟨S512x8, .i1⟩
  | .hbm, ⟨86, _⟩ => ⟨S512x8, .f32⟩
  | .hbm, ⟨87, _⟩ => ⟨S8, .i32⟩
  | .hbm, ⟨88, _⟩ => ⟨S8x1, .i32⟩
  | .hbm, ⟨89, _⟩ => ⟨S1x96, .i32⟩
  | .hbm, ⟨90, _⟩ => ⟨S8x96, .i32⟩
  | .hbm, ⟨91, _⟩ => ⟨S8x96, .i32⟩
  | .hbm, ⟨92, _⟩ => ⟨S8x96, .i1⟩
  | .hbm, ⟨93, _⟩ => ⟨S8x96, .f32⟩
  | .hbm, ⟨94, _⟩ => ⟨S96x3x3, .f32⟩
  | .hbm, ⟨95, _⟩ => ⟨S3x3x96, .f32⟩
  | .hbm, ⟨96, _⟩ => ⟨S9x96, .f32⟩
  | .hbm, ⟨97, _⟩ => ⟨S96x96, .f32⟩
  | .hbm, ⟨98, _⟩ => ⟨S96, .f32⟩
  | .hbm, ⟨99, _⟩ => ⟨S1x96, .f32⟩
  | .hbm, ⟨100, _⟩ => ⟨S96x96, .f32⟩
  | .hbm, ⟨101, _⟩ => ⟨S96, .f32⟩
  | .hbm, ⟨102, _⟩ => ⟨S1x96, .f32⟩
  | .hbm, ⟨103, _⟩ => ⟨S1x96, .f32⟩
  | .hbm, ⟨104, _⟩ => ⟨S2x96x224x224, .f32⟩
  | .local _ .vmem, ⟨0, _⟩ => ⟨S1x96x32x224, .f32⟩
  | .local _ .vmem, ⟨1, _⟩ => ⟨S1x96x32x224, .f32⟩
  | .local _ .vmem, ⟨2, _⟩ => ⟨S96x192, .f32⟩
  | .local _ .vmem, ⟨3, _⟩ => ⟨S1x192, .f32⟩
  | .local _ .vmem, ⟨4, _⟩ => ⟨S1x1x4x7x4x192, .f32⟩
  | .local _ .vmem, ⟨5, _⟩ => ⟨S1x1x4x7x4x192, .f32⟩
  | .local _ .vmem, ⟨6, _⟩ => ⟨S1x32x224x96, .f32⟩
  | .local _ .vmem, ⟨7, _⟩ => ⟨S1x32x224x96, .f32⟩
  | .local _ .vmem, ⟨8, _⟩ => ⟨S1x1x224x96, .f32⟩
  | .local _ .vmem, ⟨9, _⟩ => ⟨S1x1x224x96, .f32⟩
  | .local _ .vmem, ⟨10, _⟩ => ⟨S1x32x224x96, .f32⟩
  | .local _ .vmem, ⟨11, _⟩ => ⟨S1x32x224x96, .f32⟩
  | .local _ .vmem, ⟨12, _⟩ => ⟨S1x1x224x96, .f32⟩
  | .local _ .vmem, ⟨13, _⟩ => ⟨S1x1x224x96, .f32⟩
  | .local _ .vmem, ⟨14, _⟩ => ⟨S1x1x4x1x4x192, .f32⟩
  | .local _ .vmem, ⟨15, _⟩ => ⟨S1x1x4x1x4x192, .f32⟩
  | .local _ .vmem, ⟨16, _⟩ => ⟨S1x1x4x1x4x192, .f32⟩
  | .local _ .vmem, ⟨17, _⟩ => ⟨S1x1x4x1x4x192, .f32⟩
  | .local _ .vmem, ⟨18, _⟩ => ⟨S1x1x4x1x4x192, .f32⟩
  | .local _ .vmem, ⟨19, _⟩ => ⟨S1x1x4x1x4x192, .f32⟩
  | .local _ .vmem, ⟨20, _⟩ => ⟨S1x1x4x1x4x192, .f32⟩
  | .local _ .vmem, ⟨21, _⟩ => ⟨S1x1x4x1x4x192, .f32⟩
  | .local _ .vmem, ⟨22, _⟩ => ⟨S1x1x4x1x4x192, .f32⟩
  | .local _ .vmem, ⟨23, _⟩ => ⟨S1x1x4x1x4x192, .f32⟩
  | .local _ .vmem, ⟨24, _⟩ => ⟨S1x1x4x1x4x192, .f32⟩
  | .local _ .vmem, ⟨25, _⟩ => ⟨S1x1x4x1x4x192, .f32⟩
  | .local _ .vmem, ⟨26, _⟩ => ⟨S1x1x4x1x4x192, .f32⟩
  | .local _ .vmem, ⟨27, _⟩ => ⟨S1x1x4x1x4x192, .f32⟩
  | .local _ .vmem, ⟨28, _⟩ => ⟨S1x1x4x1x4x192, .f32⟩
  | .local _ .vmem, ⟨29, _⟩ => ⟨S1x1x4x1x4x192, .f32⟩
  | .local _ .vmem, ⟨30, _⟩ => ⟨S1x1x4x1x4x192, .f32⟩
  | .local _ .vmem, ⟨31, _⟩ => ⟨S1x1x4x1x4x192, .f32⟩
  | .local _ .vmem, ⟨32, _⟩ => ⟨S1x1x4x1x4x192, .f32⟩
  | .local _ .vmem, ⟨33, _⟩ => ⟨S1x1x4x1x4x192, .f32⟩
  | .local _ .vmem, ⟨34, _⟩ => ⟨S1x1x4x1x4x192, .f32⟩
  | .local _ .vmem, ⟨35, _⟩ => ⟨S1x1x4x1x4x192, .f32⟩
  | .local _ .vmem, ⟨36, _⟩ => ⟨S1x1x4x1x4x192, .f32⟩
  | .local _ .vmem, ⟨37, _⟩ => ⟨S1x1x4x1x4x192, .f32⟩
  | .local _ .vmem, ⟨38, _⟩ => ⟨S1x1x4x1x4x192, .f32⟩
  | .local _ .vmem, ⟨39, _⟩ => ⟨S1x1x4x1x4x192, .f32⟩
  | .local _ .vmem, ⟨40, _⟩ => ⟨S1x1x4x1x4x192, .f32⟩
  | .local _ .vmem, ⟨41, _⟩ => ⟨S1x1x4x1x4x192, .f32⟩
  | .local _ .vmem, ⟨42, _⟩ => ⟨S1x1x4x1x4x192, .f32⟩
  | .local _ .vmem, ⟨43, _⟩ => ⟨S1x1x4x1x4x192, .f32⟩
  | .local _ .vmem, ⟨44, _⟩ => ⟨S1x1x4x1x4x192, .f32⟩
  | .local _ .vmem, ⟨45, _⟩ => ⟨S1x1x4x1x4x192, .f32⟩
  | .local _ .vmem, ⟨46, _⟩ => ⟨S1x1x4x1x4x192, .f32⟩
  | .local _ .vmem, ⟨47, _⟩ => ⟨S1x1x4x1x4x192, .f32⟩
  | .local _ .vmem, ⟨48, _⟩ => ⟨S1x1x4x1x4x192, .f32⟩
  | .local _ .vmem, ⟨49, _⟩ => ⟨S1x1x4x1x4x192, .f32⟩
  | .local _ .vmem, ⟨50, _⟩ => ⟨S1x1x4x1x4x192, .f32⟩
  | .local _ .vmem, ⟨51, _⟩ => ⟨S1x1x4x1x4x192, .f32⟩
  | .local _ .vmem, ⟨52, _⟩ => ⟨S1x1x4x1x4x192, .f32⟩
  | .local _ .vmem, ⟨53, _⟩ => ⟨S1x1x4x1x4x192, .f32⟩
  | .local _ .vmem, ⟨54, _⟩ => ⟨S1x1x4x1x4x192, .f32⟩
  | .local _ .vmem, ⟨55, _⟩ => ⟨S1x1x4x1x4x192, .f32⟩
  | .local _ .vmem, ⟨56, _⟩ => ⟨S1x1x4x1x4x192, .f32⟩
  | .local _ .vmem, ⟨57, _⟩ => ⟨S1x1x4x1x4x192, .f32⟩
  | .local _ .vmem, ⟨58, _⟩ => ⟨S1x1x4x1x4x192, .f32⟩
  | .local _ .vmem, ⟨59, _⟩ => ⟨S1x1x4x1x4x192, .f32⟩
  | .local _ .vmem, ⟨60, _⟩ => ⟨S1x1x4x1x4x192, .f32⟩
  | .local _ .vmem, ⟨61, _⟩ => ⟨S1x1x4x1x4x192, .f32⟩
  | .local _ .vmem, ⟨62, _⟩ => ⟨S1x1x4x1x4x192, .f32⟩
  | .local _ .vmem, ⟨63, _⟩ => ⟨S1x1x4x1x4x192, .f32⟩
  | .local _ .vmem, ⟨64, _⟩ => ⟨S1x1x4x1x4x192, .f32⟩
  | .local _ .vmem, ⟨65, _⟩ => ⟨S1x1x4x1x4x192, .f32⟩
  | .local _ .vmem, ⟨66, _⟩ => ⟨S1x1x4x1x4x192, .f32⟩
  | .local _ .vmem, ⟨67, _⟩ => ⟨S1x1x4x1x4x192, .f32⟩
  | .local _ .vmem, ⟨68, _⟩ => ⟨S1x1x4x1x4x192, .f32⟩
  | .local _ .vmem, ⟨69, _⟩ => ⟨S1x1x4x1x4x192, .f32⟩
  | .local _ .vmem, ⟨70, _⟩ => ⟨S96x96, .f32⟩
  | .local _ .vmem, ⟨71, _⟩ => ⟨S1x96, .f32⟩
  | .local _ .vmem, ⟨72, _⟩ => ⟨S96x96, .f32⟩
  | .local _ .vmem, ⟨73, _⟩ => ⟨S1x96, .f32⟩
  | .local _ .vmem, ⟨74, _⟩ => ⟨S9x96, .f32⟩
  | .local _ .vmem, ⟨75, _⟩ => ⟨S96x96, .f32⟩
  | .local _ .vmem, ⟨76, _⟩ => ⟨S1x96, .f32⟩
  | .local _ .vmem, ⟨77, _⟩ => ⟨S512x96, .f32⟩
  | .local _ .vmem, ⟨78, _⟩ => ⟨S512x8, .f32⟩
  | .local _ .vmem, ⟨79, _⟩ => ⟨S8x96, .f32⟩
  | .local _ .vmem, ⟨80, _⟩ => ⟨S1x96x32x224, .f32⟩
  | .local _ .vmem, ⟨81, _⟩ => ⟨S1x96x32x224, .f32⟩
  | .local _ .smem, ⟨0, _⟩ => ⟨S2x49x4, .i32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v24 : Ref sig .tc := ⟨.hbm, 54, rfl⟩
abbrev main_v25 : Ref sig .tc := ⟨.hbm, 55, rfl⟩
abbrev main_c_4 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_indices : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc1_stg16_0 : Ref sig .tc := ⟨.vmem, 40, rfl⟩
abbrev cc1_stg16_1 : Ref sig .tc := ⟨.vmem, 41, rfl⟩
abbrev cc1_stg17_0 : Ref sig .tc := ⟨.vmem, 42, rfl⟩
abbrev cc1_stg17_1 : Ref sig .tc := ⟨.vmem, 43, rfl⟩
abbrev cc1_stg18_0 : Ref sig .tc := ⟨.vmem, 44, rfl⟩
abbrev cc1_stg18_1 : Ref sig .tc := ⟨.vmem, 45, rfl⟩
abbrev cc1_stg19_0 : Ref sig .tc := ⟨.vmem, 46, rfl⟩
abbrev cc1_stg19_1 : Ref sig .tc := ⟨.vmem, 47, rfl⟩
abbrev cc1_stg20_0 : Ref sig .tc := ⟨.vmem, 48, rfl⟩
abbrev cc1_stg20_1 : Ref sig .tc := ⟨.vmem, 49, rfl⟩
abbrev cc1_stg21_0 : Ref sig .tc := ⟨.vmem, 50, rfl⟩
abbrev cc1_stg21_1 : Ref sig .tc := ⟨.vmem, 51, rfl⟩
abbrev cc1_stg22_0 : Ref sig .tc := ⟨.vmem, 52, rfl⟩
abbrev cc1_stg22_1 : Ref sig .tc := ⟨.vmem, 53, rfl⟩
abbrev cc1_stg23_0 : Ref sig .tc := ⟨.vmem, 54, rfl⟩
abbrev cc1_stg23_1 : Ref sig .tc := ⟨.vmem, 55, rfl⟩
abbrev cc1_stg24_0 : Ref sig .tc := ⟨.vmem, 56, rfl⟩
abbrev cc1_stg24_1 : Ref sig .tc := ⟨.vmem, 57, rfl⟩
abbrev cc1_stg25_0 : Ref sig .tc := ⟨.vmem, 58, rfl⟩
abbrev cc1_stg25_1 : Ref sig .tc := ⟨.vmem, 59, rfl⟩
abbrev cc1_stg26_0 : Ref sig .tc := ⟨.vmem, 60, rfl⟩
abbrev cc1_stg26_1 : Ref sig .tc := ⟨.vmem, 61, rfl⟩
abbrev cc1_stg27_0 : Ref sig .tc := ⟨.vmem, 62, rfl⟩
abbrev cc1_stg27_1 : Ref sig .tc := ⟨.vmem, 63, rfl⟩
abbrev cc1_stg28_0 : Ref sig .tc := ⟨.vmem, 64, rfl⟩
abbrev cc1_stg28_1 : Ref sig .tc := ⟨.vmem, 65, rfl⟩
abbrev cc1_stg29_0 : Ref sig .tc := ⟨.vmem, 66, rfl⟩
abbrev cc1_stg29_1 : Ref sig .tc := ⟨.vmem, 67, rfl⟩
abbrev cc1_stg30_0 : Ref sig .tc := ⟨.vmem, 68, rfl⟩
abbrev cc1_stg30_1 : Ref sig .tc := ⟨.vmem, 69, rfl⟩
abbrev cc1_stg31_0 : Ref sig .tc := ⟨.vmem, 70, rfl⟩
abbrev cc1_stg32_0 : Ref sig .tc := ⟨.vmem, 71, rfl⟩
abbrev cc1_stg33_0 : Ref sig .tc := ⟨.vmem, 72, rfl⟩
abbrev cc1_stg34_0 : Ref sig .tc := ⟨.vmem, 73, rfl⟩
abbrev cc1_stg35_0 : Ref sig .tc := ⟨.vmem, 74, rfl⟩
abbrev cc1_stg36_0 : Ref sig .tc := ⟨.vmem, 75, rfl⟩
abbrev cc1_stg37_0 : Ref sig .tc := ⟨.vmem, 76, rfl⟩
abbrev cc1_stg38_0 : Ref sig .tc := ⟨.vmem, 77, rfl⟩
abbrev cc1_stg39_0 : Ref sig .tc := ⟨.vmem, 78, rfl⟩
abbrev cc1_stg40_0 : Ref sig .tc := ⟨.vmem, 79, rfl⟩
abbrev cc1_stg41_0 : Ref sig .tc := ⟨.vmem, 80, rfl⟩
abbrev cc1_stg41_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem13_1 : DmaSem sig := 35
abbrev cc1_sem14_0 : DmaSem sig := 36
abbrev cc1_sem14_1 : DmaSem sig := 37
abbrev cc1_sem15_0 : DmaSem sig := 38
abbrev cc1_sem15_1 : DmaSem sig := 39
abbrev cc1_sem16_0 : DmaSem sig := 40
abbrev cc1_sem16_1 : DmaSem sig := 41
abbrev cc1_sem17_0 : DmaSem sig := 42
abbrev cc1_sem17_1 : DmaSem sig := 43
abbrev cc1_sem18_0 : DmaSem sig := 44
abbrev cc1_sem18_1 : DmaSem sig := 45
abbrev cc1_sem19_0 : DmaSem sig := 46
abbrev cc1_sem19_1 : DmaSem sig := 47
abbrev cc1_sem20_0 : DmaSem sig := 48
abbrev cc1_sem20_1 : DmaSem sig := 49
abbrev cc1_sem21_0 : DmaSem sig := 50
abbrev cc1_sem21_1 : DmaSem sig := 51
abbrev cc1_sem22_0 : DmaSem sig := 52
abbrev cc1_sem22_1 : DmaSem sig := 53
abbrev cc1_sem23_0 : DmaSem sig := 54
abbrev cc1_sem23_1 : DmaSem sig := 55
abbrev cc1_sem24_0 : DmaSem sig := 56
abbrev cc1_sem24_1 : DmaSem sig := 57
abbrev cc1_sem25_0 : DmaSem sig := 58
abbrev cc1_sem25_1 : DmaSem sig := 59
abbrev cc1_sem26_0 : DmaSem sig := 60
abbrev cc1_sem26_1 : DmaSem sig := 61
abbrev cc1_sem27_0 : DmaSem sig := 62
abbrev cc1_sem27_1 : DmaSem sig := 63
abbrev cc1_sem28_0 : DmaSem sig := 64
abbrev cc1_sem28_1 : DmaSem sig := 65
abbrev cc1_sem29_0 : DmaSem sig := 66
abbrev cc1_sem29_1 : DmaSem sig := 67
abbrev cc1_sem30_0 : DmaSem sig := 68
abbrev cc1_sem30_1 : DmaSem sig := 69
abbrev cc1_sem31_0 : DmaSem sig := 70
abbrev cc1_sem32_0 : DmaSem sig := 71
abbrev cc1_sem33_0 : DmaSem sig := 72
abbrev cc1_sem34_0 : DmaSem sig := 73
abbrev cc1_sem35_0 : DmaSem sig := 74
abbrev cc1_sem36_0 : DmaSem sig := 75
abbrev cc1_sem37_0 : DmaSem sig := 76
abbrev cc1_sem38_0 : DmaSem sig := 77
abbrev cc1_sem39_0 : DmaSem sig := 78
abbrev cc1_sem40_0 : DmaSem sig := 79
abbrev cc1_sem41_0 : DmaSem sig := 80
abbrev cc1_sem41_1 : DmaSem sig := 81

abbrev nD : Nat := 1
abbrev τ : Topo := Topo.v7x

variable {F : FTy → Type} [FloatOps F]

abbrev grid0 : Pipeline.Grid := ⟨2, ![2, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x96x32x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4x7x4x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x224x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 7], ![false, false]⟩

abbrev pre1 : Pipeline.Prefetch sig := ⟨1, ![main_indices.idx], fun | 0 => main_indices.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (c0_i32 : BitVec 32) : Fin 3 → Nat :=
  let arg0 : BitVec 32 := BitVec.ofNat 32 (i 0).val
  let v2 : Index := Scalar.indexCast arg0
  let arg1 : BitVec 32 := BitVec.ofNat 32 (i 1).val
  let c7_i32 : BitVec 32 := 7#32
  let v0 : BitVec 32 := Scalar.muli arg1 c7_i32
  let v1 : BitVec 32 := Scalar.addi v0 c0_i32
  let v3 : Index := Scalar.indexCast v1
  let c0 : Index := 0#32
  ![v2.toNat, v3.toNat, 0]
def k1_off2 (i : grid1.Coords) (c0_i32 : BitVec 32) : Fin 3 → Nat :=
  let arg0 : BitVec 32 := BitVec.ofNat 32 (i 0).val
  let v2 : Index := Scalar.indexCast arg0
  let arg1 : BitVec 32 := BitVec.ofNat 32 (i 1).val
  let c7_i32 : BitVec 32 := 7#32
  let v0 : BitVec 32 := Scalar.muli arg1 c7_i32
  let v1 : BitVec 32 := Scalar.addi v0 c0_i32
  let v3 : Index := Scalar.indexCast v1
  let c1 : Index := 1#32
  ![v2.toNat, v3.toNat, 1]
def k1_off3 (i : grid1.Coords) (c0_i32 : BitVec 32) : Fin 3 → Nat :=
  let arg0 : BitVec 32 := BitVec.ofNat 32 (i 0).val
  let v2 : Index := Scalar.indexCast arg0
  let arg1 : BitVec 32 := BitVec.ofNat 32 (i 1).val
  let c7_i32 : BitVec 32 := 7#32
  let v0 : BitVec 32 := Scalar.muli arg1 c7_i32
  let v1 : BitVec 32 := Scalar.addi v0 c0_i32
  let v3 : Index := Scalar.indexCast v1
  let c2 : Index := 2#32
  ![v2.toNat, v3.toNat, 2]
def k1_off4 (i : grid1.Coords) (c0_i32 : BitVec 32) : Fin 3 → Nat :=
  let arg0 : BitVec 32 := BitVec.ofNat 32 (i 0).val
  let v2 : Index := Scalar.indexCast arg0
  let arg1 : BitVec 32 := BitVec.ofNat 32 (i 1).val
  let c7_i32 : BitVec 32 := 7#32
  let v0 : BitVec 32 := Scalar.muli arg1 c7_i32
  let v1 : BitVec 32 := Scalar.addi v0 c0_i32
  let v3 : Index := Scalar.indexCast v1
  let c3 : Index := 3#32
  ![v2.toNat, v3.toNat, 3]
def cc1_transform_0 (i : grid1.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c32_i32_0 : BitVec 32 := 32#32
  let v1 : BitVec 32 := Scalar.addi v0 c32_i32_0
  let c223_i32 : BitVec 32 := 223#32
  let v2 : BitVec 32 := Scalar.minsi v1 c223_i32
  let c0_i32 : BitVec 32 := 0#32
  let c0_i32_1 : BitVec 32 := 0#32
  let c0_i32_2 : BitVec 32 := 0#32
  ![arg0.toNat, v2.toNat, c0_i32.toNat, c0_i32_1.toNat]

def cc1_transform_3 (k1_off1_inb : ∀ i : grid1.Coords, ∀ (r : Fin 7), ∀ a, (k1_off1 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c0_i32 : BitVec 32 := 0#32
  let v1 : BitVec 32 := Scalar.addi v0 c0_i32
  let v2 : Index := Scalar.indexCast arg0
  let v3 : Index := Scalar.indexCast v1
  let c0 : Index := 0#32
  let v4 : BitVec 32 := pf.at 0 (Rect.unit (s := S2x49x4) ![v2.toNat, v3.toNat, 0] S1x1x1.size (k1_off1_inb i 0)) numel1_S1x1x1
  let c7_i32_0 : BitVec 32 := 7#32
  let v5 : BitVec 32 := Scalar.divsi v4 c7_i32_0
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c7_i32_0 c0_i32_3
  let v12 : BitVec 32 := Scalar.extui v11
  let c0_i32_4 : BitVec 32 := 0#32
  let v13 : BitVec 1 := Scalar.cmpi .slt c7_i32_0 c0_i32_4
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c7_i32_6 : BitVec 32 := 7#32
  let c0_i32_7 : BitVec 32 := 0#32
  let v22 : BitVec 1 := Scalar.cmpi .eq c7_i32_6 c0_i32_7
  let c1_i32_8 : BitVec 32 := 1#32
  let v23 : BitVec 32 := Scalar.select v22 c1_i32_8 c7_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  let c0_i32_14 : BitVec 32 := 0#32
  let c0_i32_15 : BitVec 32 := 0#32
  ![arg0.toNat, v21.toNat, c0_i32_12.toNat, v31.toNat, c0_i32_13.toNat, c0_i32_14.toNat]

def cc1_transform_4 (k1_off2_inb : ∀ i : grid1.Coords, ∀ (r : Fin 7), ∀ a, (k1_off2 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c0_i32 : BitVec 32 := 0#32
  let v1 : BitVec 32 := Scalar.addi v0 c0_i32
  let v2 : Index := Scalar.indexCast arg0
  let v3 : Index := Scalar.indexCast v1
  let c1 : Index := 1#32
  let v4 : BitVec 32 := pf.at 0 (Rect.unit (s := S2x49x4) ![v2.toNat, v3.toNat, 1] S1x1x1.size (k1_off2_inb i 0)) numel1_S1x1x1
  let c7_i32_0 : BitVec 32 := 7#32
  let v5 : BitVec 32 := Scalar.divsi v4 c7_i32_0
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c7_i32_0 c0_i32_3
  let v12 : BitVec 32 := Scalar.extui v11
  let c0_i32_4 : BitVec 32 := 0#32
  let v13 : BitVec 1 := Scalar.cmpi .slt c7_i32_0 c0_i32_4
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c7_i32_6 : BitVec 32 := 7#32
  let c0_i32_7 : BitVec 32 := 0#32
  let v22 : BitVec 1 := Scalar.cmpi .eq c7_i32_6 c0_i32_7
  let c1_i32_8 : BitVec 32 := 1#32
  let v23 : BitVec 32 := Scalar.select v22 c1_i32_8 c7_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  let c0_i32_14 : BitVec 32 := 0#32
  let c0_i32_15 : BitVec 32 := 0#32
  ![arg0.toNat, v21.toNat, c0_i32_12.toNat, v31.toNat, c0_i32_13.toNat, c0_i32_14.toNat]

def cc1_transform_5 (k1_off3_inb : ∀ i : grid1.Coords, ∀ (r : Fin 7), ∀ a, (k1_off3 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c0_i32 : BitVec 32 := 0#32
  let v1 : BitVec 32 := Scalar.addi v0 c0_i32
  let v2 : Index := Scalar.indexCast arg0
  let v3 : Index := Scalar.indexCast v1
  let c2 : Index := 2#32
  let v4 : BitVec 32 := pf.at 0 (Rect.unit (s := S2x49x4) ![v2.toNat, v3.toNat, 2] S1x1x1.size (k1_off3_inb i 0)) numel1_S1x1x1
  let c7_i32_0 : BitVec 32 := 7#32
  let v5 : BitVec 32 := Scalar.divsi v4 c7_i32_0
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c7_i32_0 c0_i32_3
  let v12 : BitVec 32 := Scalar.extui v11
  let c0_i32_4 : BitVec 32 := 0#32
  let v13 : BitVec 1 := Scalar.cmpi .slt c7_i32_0 c0_i32_4
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c7_i32_6 : BitVec 32 := 7#32
  let c0_i32_7 : BitVec 32 := 0#32
  let v22 : BitVec 1 := Scalar.cmpi .eq c7_i32_6 c0_i32_7
  let c1_i32_8 : BitVec 32 := 1#32
  let v23 : BitVec 32 := Scalar.select v22 c1_i32_8 c7_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  let c0_i32_14 : BitVec 32 := 0#32
  let c0_i32_15 : BitVec 32 := 0#32
  ![arg0.toNat, v21.toNat, c0_i32_12.toNat, v31.toNat, c0_i32_13.toNat, c0_i32_14.toNat]

def cc1_transform_6 (k1_off4_inb : ∀ i : grid1.Coords, ∀ (r : Fin 7), ∀ a, (k1_off4 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c0_i32 : BitVec 32 := 0#32
  let v1 : BitVec 32 := Scalar.addi v0 c0_i32
  let v2 : Index := Scalar.indexCast arg0
  let v3 : Index := Scalar.indexCast v1
  let c3 : Index := 3#32
  let v4 : BitVec 32 := pf.at 0 (Rect.unit (s := S2x49x4) ![v2.toNat, v3.toNat, 3] S1x1x1.size (k1_off4_inb i 0)) numel1_S1x1x1
  let c7_i32_0 : BitVec 32 := 7#32
  let v5 : BitVec 32 := Scalar.divsi v4 c7_i32_0
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c7_i32_0 c0_i32_3
  let v12 : BitVec 32 := Scalar.extui v11
  let c0_i32_4 : BitVec 32 := 0#32
  let v13 : BitVec 1 := Scalar.cmpi .slt c7_i32_0 c0_i32_4
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c7_i32_6 : BitVec 32 := 7#32
  let c0_i32_7 : BitVec 32 := 0#32
  let v22 : BitVec 1 := Scalar.cmpi .eq c7_i32_6 c0_i32_7
  let c1_i32_8 : BitVec 32 := 1#32
  let v23 : BitVec 32 := Scalar.select v22 c1_i32_8 c7_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  let c0_i32_14 : BitVec 32 := 0#32
  let c0_i32_15 : BitVec 32 := 0#32
  ![arg0.toNat, v21.toNat, c0_i32_12.toNat, v31.toNat, c0_i32_13.toNat, c0_i32_14.toNat]

def cc1_transform_7 (k1_off1_inb : ∀ i : grid1.Coords, ∀ (r : Fin 7), ∀ a, (k1_off1 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c1_i32 : BitVec 32 := 1#32
  let v1 : BitVec 32 := Scalar.addi v0 c1_i32
  let v2 : Index := Scalar.indexCast arg0
  let v3 : Index := Scalar.indexCast v1
  let c0 : Index := 0#32
  let v4 : BitVec 32 := pf.at 0 (Rect.unit (s := S2x49x4) ![v2.toNat, v3.toNat, 0] S1x1x1.size (k1_off1_inb i 1)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c7_i32_6 : BitVec 32 := 7#32
  let c0_i32_7 : BitVec 32 := 0#32
  let v22 : BitVec 1 := Scalar.cmpi .eq c7_i32_6 c0_i32_7
  let c1_i32_8 : BitVec 32 := 1#32
  let v23 : BitVec 32 := Scalar.select v22 c1_i32_8 c7_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  let c0_i32_14 : BitVec 32 := 0#32
  let c0_i32_15 : BitVec 32 := 0#32
  ![arg0.toNat, v21.toNat, c0_i32_12.toNat, v31.toNat, c0_i32_13.toNat, c0_i32_14.toNat]

def cc1_transform_8 (k1_off2_inb : ∀ i : grid1.Coords, ∀ (r : Fin 7), ∀ a, (k1_off2 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c1_i32 : BitVec 32 := 1#32
  let v1 : BitVec 32 := Scalar.addi v0 c1_i32
  let v2 : Index := Scalar.indexCast arg0
  let v3 : Index := Scalar.indexCast v1
  let c1 : Index := 1#32
  let v4 : BitVec 32 := pf.at 0 (Rect.unit (s := S2x49x4) ![v2.toNat, v3.toNat, 1] S1x1x1.size (k1_off2_inb i 1)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c7_i32_6 : BitVec 32 := 7#32
  let c0_i32_7 : BitVec 32 := 0#32
  let v22 : BitVec 1 := Scalar.cmpi .eq c7_i32_6 c0_i32_7
  let c1_i32_8 : BitVec 32 := 1#32
  let v23 : BitVec 32 := Scalar.select v22 c1_i32_8 c7_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  let c0_i32_14 : BitVec 32 := 0#32
  let c0_i32_15 : BitVec 32 := 0#32
  ![arg0.toNat, v21.toNat, c0_i32_12.toNat, v31.toNat, c0_i32_13.toNat, c0_i32_14.toNat]

def cc1_transform_9 (k1_off3_inb : ∀ i : grid1.Coords, ∀ (r : Fin 7), ∀ a, (k1_off3 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c1_i32 : BitVec 32 := 1#32
  let v1 : BitVec 32 := Scalar.addi v0 c1_i32
  let v2 : Index := Scalar.indexCast arg0
  let v3 : Index := Scalar.indexCast v1
  let c2 : Index := 2#32
  let v4 : BitVec 32 := pf.at 0 (Rect.unit (s := S2x49x4) ![v2.toNat, v3.toNat, 2] S1x1x1.size (k1_off3_inb i 1)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c7_i32_6 : BitVec 32 := 7#32
  let c0_i32_7 : BitVec 32 := 0#32
  let v22 : BitVec 1 := Scalar.cmpi .eq c7_i32_6 c0_i32_7
  let c1_i32_8 : BitVec 32 := 1#32
  let v23 : BitVec 32 := Scalar.select v22 c1_i32_8 c7_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  let c0_i32_14 : BitVec 32 := 0#32
  let c0_i32_15 : BitVec 32 := 0#32
  ![arg0.toNat, v21.toNat, c0_i32_12.toNat, v31.toNat, c0_i32_13.toNat, c0_i32_14.toNat]

def cc1_transform_10 (k1_off4_inb : ∀ i : grid1.Coords, ∀ (r : Fin 7), ∀ a, (k1_off4 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c1_i32 : BitVec 32 := 1#32
  let v1 : BitVec 32 := Scalar.addi v0 c1_i32
  let v2 : Index := Scalar.indexCast arg0
  let v3 : Index := Scalar.indexCast v1
  let c3 : Index := 3#32
  let v4 : BitVec 32 := pf.at 0 (Rect.unit (s := S2x49x4) ![v2.toNat, v3.toNat, 3] S1x1x1.size (k1_off4_inb i 1)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c7_i32_6 : BitVec 32 := 7#32
  let c0_i32_7 : BitVec 32 := 0#32
  let v22 : BitVec 1 := Scalar.cmpi .eq c7_i32_6 c0_i32_7
  let c1_i32_8 : BitVec 32 := 1#32
  let v23 : BitVec 32 := Scalar.select v22 c1_i32_8 c7_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  let c0_i32_14 : BitVec 32 := 0#32
  let c0_i32_15 : BitVec 32 := 0#32
  ![arg0.toNat, v21.toNat, c0_i32_12.toNat, v31.toNat, c0_i32_13.toNat, c0_i32_14.toNat]

def cc1_transform_11 (k1_off1_inb : ∀ i : grid1.Coords, ∀ (r : Fin 7), ∀ a, (k1_off1 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c2_i32 : BitVec 32 := 2#32
  let v1 : BitVec 32 := Scalar.addi v0 c2_i32
  let v2 : Index := Scalar.indexCast arg0
  let v3 : Index := Scalar.indexCast v1
  let c0 : Index := 0#32
  let v4 : BitVec 32 := pf.at 0 (Rect.unit (s := S2x49x4) ![v2.toNat, v3.toNat, 0] S1x1x1.size (k1_off1_inb i 2)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_12 (k1_off2_inb : ∀ i : grid1.Coords, ∀ (r : Fin 7), ∀ a, (k1_off2 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c2_i32 : BitVec 32 := 2#32
  let v1 : BitVec 32 := Scalar.addi v0 c2_i32
  let v2 : Index := Scalar.indexCast arg0
  let v3 : Index := Scalar.indexCast v1
  let c1 : Index := 1#32
  let v4 : BitVec 32 := pf.at 0 (Rect.unit (s := S2x49x4) ![v2.toNat, v3.toNat, 1] S1x1x1.size (k1_off2_inb i 2)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_13 (k1_off3_inb : ∀ i : grid1.Coords, ∀ (r : Fin 7), ∀ a, (k1_off3 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c2_i32 : BitVec 32 := 2#32
  let v1 : BitVec 32 := Scalar.addi v0 c2_i32
  let v2 : Index := Scalar.indexCast arg0
  let v3 : Index := Scalar.indexCast v1
  let c2 : Index := 2#32
  let v4 : BitVec 32 := pf.at 0 (Rect.unit (s := S2x49x4) ![v2.toNat, v3.toNat, 2] S1x1x1.size (k1_off3_inb i 2)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_14 (k1_off4_inb : ∀ i : grid1.Coords, ∀ (r : Fin 7), ∀ a, (k1_off4 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c2_i32 : BitVec 32 := 2#32
  let v1 : BitVec 32 := Scalar.addi v0 c2_i32
  let v2 : Index := Scalar.indexCast arg0
  let v3 : Index := Scalar.indexCast v1
  let c3 : Index := 3#32
  let v4 : BitVec 32 := pf.at 0 (Rect.unit (s := S2x49x4) ![v2.toNat, v3.toNat, 3] S1x1x1.size (k1_off4_inb i 2)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_15 (k1_off1_inb : ∀ i : grid1.Coords, ∀ (r : Fin 7), ∀ a, (k1_off1 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c3_i32 : BitVec 32 := 3#32
  let v1 : BitVec 32 := Scalar.addi v0 c3_i32
  let v2 : Index := Scalar.indexCast arg0
  let v3 : Index := Scalar.indexCast v1
  let c0 : Index := 0#32
  let v4 : BitVec 32 := pf.at 0 (Rect.unit (s := S2x49x4) ![v2.toNat, v3.toNat, 0] S1x1x1.size (k1_off1_inb i 3)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_16 (k1_off2_inb : ∀ i : grid1.Coords, ∀ (r : Fin 7), ∀ a, (k1_off2 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c3_i32 : BitVec 32 := 3#32
  let v1 : BitVec 32 := Scalar.addi v0 c3_i32
  let v2 : Index := Scalar.indexCast arg0
  let v3 : Index := Scalar.indexCast v1
  let c1 : Index := 1#32
  let v4 : BitVec 32 := pf.at 0 (Rect.unit (s := S2x49x4) ![v2.toNat, v3.toNat, 1] S1x1x1.size (k1_off2_inb i 3)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_17 (k1_off3_inb : ∀ i : grid1.Coords, ∀ (r : Fin 7), ∀ a, (k1_off3 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c3_i32 : BitVec 32 := 3#32
  let v1 : BitVec 32 := Scalar.addi v0 c3_i32
  let v2 : Index := Scalar.indexCast arg0
  let v3 : Index := Scalar.indexCast v1
  let c2 : Index := 2#32
  let v4 : BitVec 32 := pf.at 0 (Rect.unit (s := S2x49x4) ![v2.toNat, v3.toNat, 2] S1x1x1.size (k1_off3_inb i 3)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_18 (k1_off4_inb : ∀ i : grid1.Coords, ∀ (r : Fin 7), ∀ a, (k1_off4 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c3_i32 : BitVec 32 := 3#32
  let v1 : BitVec 32 := Scalar.addi v0 c3_i32
  let v2 : Index := Scalar.indexCast arg0
  let v3 : Index := Scalar.indexCast v1
  let c3 : Index := 3#32
  let v4 : BitVec 32 := pf.at 0 (Rect.unit (s := S2x49x4) ![v2.toNat, v3.toNat, 3] S1x1x1.size (k1_off4_inb i 3)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_19 (k1_off1_inb : ∀ i : grid1.Coords, ∀ (r : Fin 7), ∀ a, (k1_off1 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c4_i32 : BitVec 32 := 4#32
  let v1 : BitVec 32 := Scalar.addi v0 c4_i32
  let v2 : Index := Scalar.indexCast arg0
  let v3 : Index := Scalar.indexCast v1
  let c0 : Index := 0#32
  let v4 : BitVec 32 := pf.at 0 (Rect.unit (s := S2x49x4) ![v2.toNat, v3.toNat, 0] S1x1x1.size (k1_off1_inb i 4)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_20 (k1_off2_inb : ∀ i : grid1.Coords, ∀ (r : Fin 7), ∀ a, (k1_off2 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c4_i32 : BitVec 32 := 4#32
  let v1 : BitVec 32 := Scalar.addi v0 c4_i32
  let v2 : Index := Scalar.indexCast arg0
  let v3 : Index := Scalar.indexCast v1
  let c1 : Index := 1#32
  let v4 : BitVec 32 := pf.at 0 (Rect.unit (s := S2x49x4) ![v2.toNat, v3.toNat, 1] S1x1x1.size (k1_off2_inb i 4)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_21 (k1_off3_inb : ∀ i : grid1.Coords, ∀ (r : Fin 7), ∀ a, (k1_off3 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c4_i32 : BitVec 32 := 4#32
  let v1 : BitVec 32 := Scalar.addi v0 c4_i32
  let v2 : Index := Scalar.indexCast arg0
  let v3 : Index := Scalar.indexCast v1
  let c2 : Index := 2#32
  let v4 : BitVec 32 := pf.at 0 (Rect.unit (s := S2x49x4) ![v2.toNat, v3.toNat, 2] S1x1x1.size (k1_off3_inb i 4)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_22 (k1_off4_inb : ∀ i : grid1.Coords, ∀ (r : Fin 7), ∀ a, (k1_off4 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c4_i32 : BitVec 32 := 4#32
  let v1 : BitVec 32 := Scalar.addi v0 c4_i32
  let v2 : Index := Scalar.indexCast arg0
  let v3 : Index := Scalar.indexCast v1
  let c3 : Index := 3#32
  let v4 : BitVec 32 := pf.at 0 (Rect.unit (s := S2x49x4) ![v2.toNat, v3.toNat, 3] S1x1x1.size (k1_off4_inb i 4)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_23 (k1_off1_inb : ∀ i : grid1.Coords, ∀ (r : Fin 7), ∀ a, (k1_off1 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c5_i32 : BitVec 32 := 5#32
  let v1 : BitVec 32 := Scalar.addi v0 c5_i32
  let v2 : Index := Scalar.indexCast arg0
  let v3 : Index := Scalar.indexCast v1
  let c0 : Index := 0#32
  let v4 : BitVec 32 := pf.at 0 (Rect.unit (s := S2x49x4) ![v2.toNat, v3.toNat, 0] S1x1x1.size (k1_off1_inb i 5)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_24 (k1_off2_inb : ∀ i : grid1.Coords, ∀ (r : Fin 7), ∀ a, (k1_off2 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c5_i32 : BitVec 32 := 5#32
  let v1 : BitVec 32 := Scalar.addi v0 c5_i32
  let v2 : Index := Scalar.indexCast arg0
  let v3 : Index := Scalar.indexCast v1
  let c1 : Index := 1#32
  let v4 : BitVec 32 := pf.at 0 (Rect.unit (s := S2x49x4) ![v2.toNat, v3.toNat, 1] S1x1x1.size (k1_off2_inb i 5)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_25 (k1_off3_inb : ∀ i : grid1.Coords, ∀ (r : Fin 7), ∀ a, (k1_off3 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c5_i32 : BitVec 32 := 5#32
  let v1 : BitVec 32 := Scalar.addi v0 c5_i32
  let v2 : Index := Scalar.indexCast arg0
  let v3 : Index := Scalar.indexCast v1
  let c2 : Index := 2#32
  let v4 : BitVec 32 := pf.at 0 (Rect.unit (s := S2x49x4) ![v2.toNat, v3.toNat, 2] S1x1x1.size (k1_off3_inb i 5)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_26 (k1_off4_inb : ∀ i : grid1.Coords, ∀ (r : Fin 7), ∀ a, (k1_off4 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c5_i32 : BitVec 32 := 5#32
  let v1 : BitVec 32 := Scalar.addi v0 c5_i32
  let v2 : Index := Scalar.indexCast arg0
  let v3 : Index := Scalar.indexCast v1
  let c3 : Index := 3#32
  let v4 : BitVec 32 := pf.at 0 (Rect.unit (s := S2x49x4) ![v2.toNat, v3.toNat, 3] S1x1x1.size (k1_off4_inb i 5)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_27 (k1_off1_inb : ∀ i : grid1.Coords, ∀ (r : Fin 7), ∀ a, (k1_off1 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c6_i32 : BitVec 32 := 6#32
  let v1 : BitVec 32 := Scalar.addi v0 c6_i32
  let v2 : Index := Scalar.indexCast arg0
  let v3 : Index := Scalar.indexCast v1
  let c0 : Index := 0#32
  let v4 : BitVec 32 := pf.at 0 (Rect.unit (s := S2x49x4) ![v2.toNat, v3.toNat, 0] S1x1x1.size (k1_off1_inb i 6)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_28 (k1_off2_inb : ∀ i : grid1.Coords, ∀ (r : Fin 7), ∀ a, (k1_off2 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c6_i32 : BitVec 32 := 6#32
  let v1 : BitVec 32 := Scalar.addi v0 c6_i32
  let v2 : Index := Scalar.indexCast arg0
  let v3 : Index := Scalar.indexCast v1
  let c1 : Index := 1#32
  let v4 : BitVec 32 := pf.at 0 (Rect.unit (s := S2x49x4) ![v2.toNat, v3.toNat, 1] S1x1x1.size (k1_off2_inb i 6)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_29 (k1_off3_inb : ∀ i : grid1.Coords, ∀ (r : Fin 7), ∀ a, (k1_off3 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c6_i32 : BitVec 32 := 6#32
  let v1 : BitVec 32 := Scalar.addi v0 c6_i32
  let v2 : Index := Scalar.indexCast arg0
  let v3 : Index := Scalar.indexCast v1
  let c2 : Index := 2#32
  let v4 : BitVec 32 := pf.at 0 (Rect.unit (s := S2x49x4) ![v2.toNat, v3.toNat, 2] S1x1x1.size (k1_off3_inb i 6)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_30 (k1_off4_inb : ∀ i : grid1.Coords, ∀ (r : Fin 7), ∀ a, (k1_off4 i (BitVec.ofNat 32 r.val)) a + S1x1x1.size a ≤ S2x49x4.size a) (numel1_S1x1x1 : S1x1x1.numel = 1) (pf : pre1.Contents (Elt F)) (i : grid1.Coords) : Fin 6 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c6_i32 : BitVec 32 := 6#32
  let v1 : BitVec 32 := Scalar.addi v0 c6_i32
  let v2 : Index := Scalar.indexCast arg0
  let v3 : Index := Scalar.indexCast v1
  let c3 : Index := 3#32
  let v4 : BitVec 32 := pf.at 0 (Rect.unit (s := S2x49x4) ![v2.toNat, v3.toNat, 3] S1x1x1.size (k1_off4_inb i 6)) numel1_S1x1x1
  let c7_i32_0 : BitVec 32 := 7#32
  let v5 : BitVec 32 := Scalar.divsi v4 c7_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c7_i32_0 c0_i32_2
  let v12 : BitVec 32 := Scalar.extui v11
  let c0_i32_3 : BitVec 32 := 0#32
  let v13 : BitVec 1 := Scalar.cmpi .slt c7_i32_0 c0_i32_3
  let v14 : BitVec 32 := Scalar.extui v13
  let v15 : BitVec 32 := Scalar.subi v12 v14
  let v16 : BitVec 1 := Scalar.cmpi .ne v10 v15
  let v17 : BitVec 32 := Scalar.remsi v4 c7_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c7_i32_5 : BitVec 32 := 7#32
  let c0_i32_6 : BitVec 32 := 0#32
  let v22 : BitVec 1 := Scalar.cmpi .eq c7_i32_5 c0_i32_6
  let c1_i32_7 : BitVec 32 := 1#32
  let v23 : BitVec 32 := Scalar.select v22 c1_i32_7 c7_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  let c0_i32_14 : BitVec 32 := 0#32
  ![arg0.toNat, v21.toNat, c0_i32_11.toNat, v31.toNat, c0_i32_12.toNat, c0_i32_13.toNat]

def cc1_transform_31 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_32 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_33 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_34 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_35 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_36 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_37 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_38 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_39 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_40 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_41 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x1x224x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x224x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x224x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4x1x4x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x4x1x4x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x4x1x4x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x4x1x4x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x4x1x4x192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x4x1x4x192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x4x1x4x192 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1x4x1x4x192 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1x4x1x4x192 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x4x1x4x192 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x1x4x1x4x192 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x1x4x1x4x192 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x1x4x1x4x192 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x1x4x1x4x192 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x1x4x1x4x192 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x1x4x1x4x192 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S1x1x4x1x4x192 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

abbrev stage1_20 : Fin 2 → Memref sig .tc .vmem S1x1x4x1x4x192 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true]

abbrev stage1_21 : Fin 2 → Memref sig .tc .vmem S1x1x4x1x4x192 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true, true]

abbrev stage1_22 : Fin 2 → Memref sig .tc .vmem S1x1x4x1x4x192 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true, true]

abbrev stage1_23 : Fin 2 → Memref sig .tc .vmem S1x1x4x1x4x192 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true, true]

abbrev stage1_24 : Fin 2 → Memref sig .tc .vmem S1x1x4x1x4x192 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true, true]

abbrev stage1_25 : Fin 2 → Memref sig .tc .vmem S1x1x4x1x4x192 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true, true]

abbrev stage1_26 : Fin 2 → Memref sig .tc .vmem S1x1x4x1x4x192 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true, true]

abbrev stage1_27 : Fin 2 → Memref sig .tc .vmem S1x1x4x1x4x192 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true, true]

abbrev stage1_28 : Fin 2 → Memref sig .tc .vmem S1x1x4x1x4x192 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true, true]

abbrev stage1_29 : Fin 2 → Memref sig .tc .vmem S1x1x4x1x4x192 .f32 := fun | 0 => Memref.whole cc1_stg29_0 | 1 => Memref.whole cc1_stg29_1 | ⟨_ + 2, h⟩ => absurd h (Nat.not_lt.2 (Nat.le_add_left _ _))
abbrev sem1_29 : Fin 2 → DmaSem sig := fun | 0 => cc1_sem29_0 | 1 => cc1_sem29_1 | ⟨_ + 2, h⟩ => absurd h (Nat.not_lt.2 (Nat.le_add_left _ _))
abbrev reads1_29 : Fin grid1.rank → Bool := ![true, true]

abbrev stage1_30 : Fin 2 → Memref sig .tc .vmem S1x1x4x1x4x192 .f32 := fun | 0 => Memref.whole cc1_stg30_0 | 1 => Memref.whole cc1_stg30_1 | ⟨_ + 2, h⟩ => absurd h (Nat.not_lt.2 (Nat.le_add_left _ _))
abbrev sem1_30 : Fin 2 → DmaSem sig := fun | 0 => cc1_sem30_0 | 1 => cc1_sem30_1 | ⟨_ + 2, h⟩ => absurd h (Nat.not_lt.2 (Nat.le_add_left _ _))
abbrev reads1_30 : Fin grid1.rank → Bool := ![true, true]

abbrev stage1_31 : Fin 1 → Memref sig .tc .vmem S96x96 .f32 := fun | 0 => Memref.whole cc1_stg31_0 | ⟨_ + 1, h⟩ => absurd h (Nat.not_lt.2 (Nat.le_add_left _ _))
abbrev sem1_31 : Fin 1 → DmaSem sig := fun | 0 => cc1_sem31_0 | ⟨_ + 1, h⟩ => absurd h (Nat.not_lt.2 (Nat.le_add_left _ _))
abbrev reads1_31 : Fin grid1.rank → Bool := ![false, false]

abbrev stage1_32 : Fin 1 → Memref sig .tc .vmem S1x96 .f32 := fun | 0 => Memref.whole cc1_stg32_0 | ⟨_ + 1, h⟩ => absurd h (Nat.not_lt.2 (Nat.le_add_left _ _))
abbrev sem1_32 : Fin 1 → DmaSem sig := fun | 0 => cc1_sem32_0 | ⟨_ + 1, h⟩ => absurd h (Nat.not_lt.2 (Nat.le_add_left _ _))
abbrev reads1_32 : Fin grid1.rank → Bool := ![false, false]

abbrev stage1_33 : Fin 1 → Memref sig .tc .vmem S96x96 .f32 := fun | 0 => Memref.whole cc1_stg33_0 | ⟨_ + 1, h⟩ => absurd h (Nat.not_lt.2 (Nat.le_add_left _ _))
abbrev sem1_33 : Fin 1 → DmaSem sig := fun | 0 => cc1_sem33_0 | ⟨_ + 1, h⟩ => absurd h (Nat.not_lt.2 (Nat.le_add_left _ _))
abbrev reads1_33 : Fin grid1.rank → Bool := ![false, false]

abbrev stage1_34 : Fin 1 → Memref sig .tc .vmem S1x96 .f32 := fun | 0 => Memref.whole cc1_stg34_0 | ⟨_ + 1, h⟩ => absurd h (Nat.not_lt.2 (Nat.le_add_left _ _))
abbrev sem1_34 : Fin 1 → DmaSem sig := fun | 0 => cc1_sem34_0 | ⟨_ + 1, h⟩ => absurd h (Nat.not_lt.2 (Nat.le_add_left _ _))
abbrev reads1_34 : Fin grid1.rank → Bool := ![false, false]

abbrev stage1_35 : Fin 1 → Memref sig .tc .vmem S9x96 .f32 := fun | 0 => Memref.whole cc1_stg35_0 | ⟨_ + 1, h⟩ => absurd h (Nat.not_lt.2 (Nat.le_add_left _ _))
abbrev sem1_35 : Fin 1 → DmaSem sig := fun | 0 => cc1_sem35_0 | ⟨_ + 1, h⟩ => absurd h (Nat.not_lt.2 (Nat.le_add_left _ _))
abbrev reads1_35 : Fin grid1.rank → Bool := ![false, false]

abbrev stage1_36 : Fin 1 → Memref sig .tc .vmem S96x96 .f32 := fun | 0 => Memref.whole cc1_stg36_0 | ⟨_ + 1, h⟩ => absurd h (Nat.not_lt.2 (Nat.le_add_left _ _))
abbrev sem1_36 : Fin 1 → DmaSem sig := fun | 0 => cc1_sem36_0 | ⟨_ + 1, h⟩ => absurd h (Nat.not_lt.2 (Nat.le_add_left _ _))
abbrev reads1_36 : Fin grid1.rank → Bool := ![false, false]

abbrev stage1_37 : Fin 1 → Memref sig .tc .vmem S1x96 .f32 := fun | 0 => Memref.whole cc1_stg37_0 | ⟨_ + 1, h⟩ => absurd h (Nat.not_lt.2 (Nat.le_add_left _ _))
abbrev sem1_37 : Fin 1 → DmaSem sig := fun | 0 => cc1_sem37_0 | ⟨_ + 1, h⟩ => absurd h (Nat.not_lt.2 (Nat.le_add_left _ _))
abbrev reads1_37 : Fin grid1.rank → Bool := ![false, false]

abbrev stage1_38 : Fin 1 → Memref sig .tc .vmem S512x96 .f32 := fun | 0 => Memref.whole cc1_stg38_0 | ⟨_ + 1, h⟩ => absurd h (Nat.not_lt.2 (Nat.le_add_left _ _))
abbrev sem1_38 : Fin 1 → DmaSem sig := fun | 0 => cc1_sem38_0 | ⟨_ + 1, h⟩ => absurd h (Nat.not_lt.2 (Nat.le_add_left _ _))
abbrev reads1_38 : Fin grid1.rank → Bool := ![false, false]

abbrev stage1_39 : Fin 1 → Memref sig .tc .vmem S512x8 .f32 := fun | 0 => Memref.whole cc1_stg39_0 | ⟨_ + 1, h⟩ => absurd h (Nat.not_lt.2 (Nat.le_add_left _ _))
abbrev sem1_39 : Fin 1 → DmaSem sig := fun | 0 => cc1_sem39_0 | ⟨_ + 1, h⟩ => absurd h (Nat.not_lt.2 (Nat.le_add_left _ _))
abbrev reads1_39 : Fin grid1.rank → Bool := ![false, false]

abbrev stage1_40 : Fin 1 → Memref sig .tc .vmem S8x96 .f32 := fun | 0 => Memref.whole cc1_stg40_0 | ⟨_ + 1, h⟩ => absurd h (Nat.not_lt.2 (Nat.le_add_left _ _))
abbrev sem1_40 : Fin 1 → DmaSem sig := fun | 0 => cc1_sem40_0 | ⟨_ + 1, h⟩ => absurd h (Nat.not_lt.2 (Nat.le_add_left _ _))
abbrev reads1_40 : Fin grid1.rank → Bool := ![false, false]

abbrev stage1_41 : Fin 2 → Memref sig .tc .vmem S1x96x32x224 .f32 := fun | 0 => Memref.whole cc1_stg41_0 | 1 => Memref.whole cc1_stg41_1 | ⟨_ + 2, h⟩ => absurd h (Nat.not_lt.2 (Nat.le_add_left _ _))
abbrev sem1_41 : Fin 2 → DmaSem sig := fun | 0 => cc1_sem41_0 | 1 => cc1_sem41_1 | ⟨_ + 2, h⟩ => absurd h (Nat.not_lt.2 (Nat.le_add_left _ _))
abbrev reads1_41 : Fin grid1.rank → Bool := ![true, true]
-- ==== ReferenceIdeal.lean ====
abbrev S2x96x224x224 : Shape := ⟨4, ![2, 96, 224, 224]⟩
abbrev S96x288 : Shape := ⟨2, ![96, 288]⟩
abbrev S288 : Shape := ⟨1, ![288]⟩
abbrev S96x1x3x3 : Shape := ⟨4, ![96, 1, 3, 3]⟩
abbrev S96x96 : Shape := ⟨2, ![96, 96]⟩
abbrev S96 : Shape := ⟨1, ![96]⟩
abbrev S2x224x224x96 : Shape := ⟨4, ![2, 224, 224, 96]⟩
abbrev S2x7x32x7x32x96 : Shape := ⟨6, ![2, 7, 32, 7, 32, 96]⟩
abbrev S2x7x7x32x32x96 : Shape := ⟨6, ![2, 7, 7, 32, 32, 96]⟩
abbrev S2x49x32x32x96 : Shape := ⟨5, ![2, 49, 32, 32, 96]⟩
abbrev S2x49x32x32x288 : Shape := ⟨5, ![2, 49, 32, 32, 288]⟩
abbrev S1x1x1x1x288 : Shape := ⟨5, ![1, 1, 1, 1, 288]⟩
abbrev S2x49x32x32x192 : Shape := ⟨5, ![2, 49, 32, 32, 192]⟩
abbrev S2x49x1024x96 : Shape := ⟨4, ![2, 49, 1024, 96]⟩
abbrev S2x49x192x32x32 : Shape := ⟨5, ![2, 49, 192, 32, 32]⟩
abbrev S98x192x32x32 : Shape := ⟨4, ![98, 192, 32, 32]⟩
abbrev S98x192x4x8x4x8 : Shape := ⟨6, ![98, 192, 4, 8, 4, 8]⟩
abbrev S_ : Shape := ⟨0, ![]⟩
abbrev S98x192x4x4 : Shape := ⟨4, ![98, 192, 4, 4]⟩
abbrev S2x49x192x16 : Shape := ⟨4, ![2, 49, 192, 16]⟩
abbrev S2x49x16x192 : Shape := ⟨4, ![2, 49, 16, 192]⟩
abbrev S2x49x96 : Shape := ⟨3, ![2, 49, 96]⟩
abbrev S2x96x7x32x7x32 : Shape := ⟨6, ![2, 96, 7, 32, 7, 32]⟩
abbrev S2x96x226x226 : Shape := ⟨4, ![2, 96, 226, 226]⟩
abbrev S96x1x1x1 : Shape := ⟨4, ![96, 1, 1, 1]⟩
abbrev S1x96x1x1 : Shape := ⟨4, ![1, 96, 1, 1]⟩
abbrev S2x96x49 : Shape := ⟨3, ![2, 96, 49]⟩
abbrev S2x49x49 : Shape := ⟨3, ![2, 49, 49]⟩
abbrev S2x49x4 : Shape := ⟨3, ![2, 49, 4]⟩
abbrev S2x49x4x1 : Shape := ⟨4, ![2, 49, 4, 1]⟩
abbrev S2x49x4x16x192 : Shape := ⟨5, ![2, 49, 4, 16, 192]⟩
abbrev S2x49x4x16x96 : Shape := ⟨5, ![2, 49, 4, 16, 96]⟩
abbrev S98x4x16x8x12 : Shape := ⟨5, ![98, 4, 16, 8, 12]⟩
abbrev S98x8x12x4x16 : Shape := ⟨5, ![98, 8, 12, 4, 16]⟩
abbrev S98x8x12x64 : Shape := ⟨4, ![98, 8, 12, 64]⟩
abbrev S98x8x4x16x12 : Shape := ⟨5, ![98, 8, 4, 16, 12]⟩
abbrev S98x8x64x12 : Shape := ⟨4, ![98, 8, 64, 12]⟩
abbrev S98x1024x8x12 : Shape := ⟨4, ![98, 1024, 8, 12]⟩
abbrev S98x8x1024x12 : Shape := ⟨4, ![98, 8, 1024, 12]⟩
abbrev S98x8x1024x64 : Shape := ⟨4, ![98, 8, 1024, 64]⟩
abbrev S98x8x1024 : Shape := ⟨3, ![98, 8, 1024]⟩
abbrev S98x8x1024x1 : Shape := ⟨4, ![98, 8, 1024, 1]⟩
abbrev S2x7x7x8x32x32x12 : Shape := ⟨7, ![2, 7, 7, 8, 32, 32, 12]⟩
abbrev S2x7x32x7x32x8x12 : Shape := ⟨7, ![2, 7, 32, 7, 32, 8, 12]⟩
abbrev S1x1x1x96 : Shape := ⟨4, ![1, 1, 1, 96]⟩

abbrev nBuf : Space → Nat
  | .hbm => 189
  | .vmem => 0
  | .smem => 0
  | _ => 0

abbrev hbmTy0_0 (i : Nat) : BufTy := match i % 128 with
  | 0 => ⟨S2x96x224x224, .f32⟩
  | 1 => ⟨S96x288, .f32⟩
  | 2 => ⟨S288, .f32⟩
  | 3 => ⟨S96x1x3x3, .f32⟩
  | 4 => ⟨S96x96, .f32⟩
  | 5 => ⟨S96, .f32⟩
  | 6 => ⟨S2x224x224x96, .f32⟩
  | 7 => ⟨S2x7x32x7x32x96, .f32⟩
  | 8 => ⟨S2x7x7x32x32x96, .f32⟩
  | 9 => ⟨S2x49x32x32x96, .f32⟩
  | 10 => ⟨S2x49x32x32x288, .f32⟩
  | 11 => ⟨S1x1x1x1x288, .f32⟩
  | 12 => ⟨S2x49x32x32x288, .f32⟩
  | 13 => ⟨S2x49x32x32x288, .f32⟩
  | 14 => ⟨S2x49x32x32x96, .f32⟩
  | 15 => ⟨S2x49x32x32x192, .f32⟩
  | 16 => ⟨S2x49x1024x96, .f32⟩
  | 17 => ⟨S2x49x192x32x32, .f32⟩
  | 18 => ⟨S98x192x32x32, .f32⟩
  | 19 => ⟨S98x192x4x8x4x8, .f32⟩
  | 20 => ⟨S_, .f32⟩
  | 21 => ⟨S98x192x4x4, .f32⟩
  | 22 => ⟨S_, .f32⟩
  | 23 => ⟨S98x192x4x4, .f32⟩
  | 24 => ⟨S98x192x4x4, .f32⟩
  | 25 => ⟨S2x49x192x16, .f32⟩
  | 26 => ⟨S2x49x16x192, .f32⟩
  | 27 => ⟨S_, .f32⟩
  | 28 => ⟨S2x49x96, .f32⟩
  | 29 => ⟨S_, .f32⟩
  | 30 => ⟨S2x49x96, .f32⟩
  | 31 => ⟨S2x49x96, .f32⟩
  | 32 => ⟨S2x49x32x32x96, .f32⟩
  | 33 => ⟨S_, .f32⟩
  | 34 => ⟨S2x49x96, .f32⟩
  | 35 => ⟨S_, .f32⟩
  | 36 => ⟨S2x49x96, .f32⟩
  | 37 => ⟨S2x49x96, .f32⟩
  | 38 => ⟨S2x49x32x32x96, .f32⟩
  | 39 => ⟨S2x7x7x32x32x96, .f32⟩
  | 40 => ⟨S2x96x7x32x7x32, .f32⟩
  | 41 => ⟨S2x96x224x224, .f32⟩
  | 42 => ⟨S_, .i32⟩
  | 43 => ⟨S_, .f32⟩
  | 44 => ⟨S2x96x226x226, .f32⟩
  | 45 => ⟨S2x96x224x224, .f32⟩
  | 46 => ⟨S96x1x1x1, .f32⟩
  | 47 => ⟨S96, .f32⟩
  | 48 => ⟨S1x96x1x1, .f32⟩
  | 49 => ⟨S2x96x224x224, .f32⟩
  | 50 => ⟨S2x96x224x224, .f32⟩
  | 51 => ⟨S_, .f32⟩
  | 52 => ⟨S2x96x224x224, .f32⟩
  | 53 => ⟨S2x96x224x224, .f32⟩
  | 54 => ⟨S_, .i32⟩
  | 55 => ⟨S_, .f32⟩
  | 56 => ⟨S2x96x226x226, .f32⟩
  | 57 => ⟨S2x96x224x224, .f32⟩
  | 58 => ⟨S96x1x1x1, .f32⟩
  | 59 => ⟨S96, .f32⟩
  | 60 => ⟨S1x96x1x1, .f32⟩
  | 61 => ⟨S2x96x224x224, .f32⟩
  | 62 => ⟨S2x96x224x224, .f32⟩
  | 63 => ⟨S2x96x224x224, .f32⟩
  | 64 => ⟨S_, .i32⟩
  | 65 => ⟨S_, .f32⟩
  | 66 => ⟨S2x96x226x226, .f32⟩
  | 67 => ⟨S2x96x224x224, .f32⟩
  | 68 => ⟨S96x1x1x1, .f32⟩
  | 69 => ⟨S96, .f32⟩
  | 70 => ⟨S1x96x1x1, .f32⟩
  | 71 => ⟨S2x96x224x224, .f32⟩
  | 72 => ⟨S2x96x224x224, .f32⟩
  | 73 => ⟨S2x96x224x224, .f32⟩
  | 74 => ⟨S_, .i32⟩
  | 75 => ⟨S_, .f32⟩
  | 76 => ⟨S2x96x226x226, .f32⟩
  | 77 => ⟨S2x96x224x224, .f32⟩
  | 78 => ⟨S96x1x1x1, .f32⟩
  | 79 => ⟨S96, .f32⟩
  | 80 => ⟨S1x96x1x1, .f32⟩
  | 81 => ⟨S2x96x224x224, .f32⟩
  | 82 => ⟨S2x96x224x224, .f32⟩
  | 83 => ⟨S2x96x224x224, .f32⟩
  | 84 => ⟨S_, .i32⟩
  | 85 => ⟨S_, .f32⟩
  | 86 => ⟨S2x96x226x226, .f32⟩
  | 87 => ⟨S2x96x224x224, .f32⟩
  | 88 => ⟨S96x1x1x1, .f32⟩
  | 89 => ⟨S96, .f32⟩
  | 90 => ⟨S1x96x1x1, .f32⟩
  | 91 => ⟨S2x96x224x224, .f32⟩
  | 92 => ⟨S2x96x224x224, .f32⟩
  | 93 => ⟨S2x96x224x224, .f32⟩
  | 94 => ⟨S_, .i32⟩
  | 95 => ⟨S_, .f32⟩
  | 96 => ⟨S2x96x226x226, .f32⟩
  | 97 => ⟨S2x96x224x224, .f32⟩
  | 98 => ⟨S96x1x1x1, .f32⟩
  | 99 => ⟨S96, .f32⟩
  | 100 => ⟨S1x96x1x1, .f32⟩
  | 101 => ⟨S2x96x224x224, .f32⟩
  | 102 => ⟨S2x96x224x224, .f32⟩
  | 103 => ⟨S2x96x224x224, .f32⟩
  | 104 => ⟨S_, .i32⟩
  | 105 => ⟨S_, .f32⟩
  | 106 => ⟨S2x96x226x226, .f32⟩
  | 107 => ⟨S2x96x224x224, .f32⟩
  | 108 => ⟨S96x1x1x1, .f32⟩
  | 109 => ⟨S96, .f32⟩
  | 110 => ⟨S1x96x1x1, .f32⟩
  | 111 => ⟨S2x96x224x224, .f32⟩
  | 112 => ⟨S2x96x224x224, .f32⟩
  | 113 => ⟨S2x96x224x224, .f32⟩
  | 114 => ⟨S_, .i32⟩
  | 115 => ⟨S_, .f32⟩
  | 116 => ⟨S2x96x226x226, .f32⟩
  | 117 => ⟨S2x96x224x224, .f32⟩
  | 118 => ⟨S96x1x1x1, .f32⟩
  | 119 => ⟨S96, .f32⟩
  | 120 => ⟨S1x96x1x1, .f32⟩
  | 121 => ⟨S2x96x224x224, .f32⟩
  | 122 => ⟨S2x96x224x224, .f32⟩
  | 123 => ⟨S2x96x224x224, .f32⟩
  | 124 => ⟨S_, .i32⟩
  | 125 => ⟨S_, .f32⟩
  | 126 => ⟨S2x96x226x226, .f32⟩
  | 127 => ⟨S2x96x224x224, .f32⟩
  | _ => ⟨S2x96x224x224, .f32⟩

abbrev hbmTy0_1 (i : Nat) : BufTy := match i % 128 with
  | 0 => ⟨S96x1x1x1, .f32⟩
  | 1 => ⟨S96, .f32⟩
  | 2 => ⟨S1x96x1x1, .f32⟩
  | 3 => ⟨S2x96x224x224, .f32⟩
  | 4 => ⟨S2x96x224x224, .f32⟩
  | 5 => ⟨S2x96x224x224, .f32⟩
  | 6 => ⟨S2x224x224x96, .f32⟩
  | 7 => ⟨S_, .f32⟩
  | 8 => ⟨S2x49x96, .f32⟩
  | 9 => ⟨S2x49x96, .f32⟩
  | 10 => ⟨S2x96x49, .f32⟩
  | 11 => ⟨S2x49x49, .f32⟩
  | 12 => ⟨S2x49x4, .f32⟩
  | 13 => ⟨S2x49x4, .i32⟩
  | 14 => ⟨S_, .i32⟩
  | 15 => ⟨S2x49x4, .i32⟩
  | 16 => ⟨S2x49x4, .i1⟩
  | 17 => ⟨S_, .i32⟩
  | 18 => ⟨S2x49x4, .i32⟩
  | 19 => ⟨S2x49x4, .i32⟩
  | 20 => ⟨S2x49x4, .i32⟩
  | 21 => ⟨S2x49x4x1, .i32⟩
  | 22 => ⟨S2x49x4x16x192, .f32⟩
  | 23 => ⟨S2x49x4x16x96, .f32⟩
  | 24 => ⟨S2x49x4x16x96, .f32⟩
  | 25 => ⟨S98x4x16x8x12, .f32⟩
  | 26 => ⟨S98x8x12x4x16, .f32⟩
  | 27 => ⟨S98x8x12x64, .f32⟩
  | 28 => ⟨S98x4x16x8x12, .f32⟩
  | 29 => ⟨S98x8x4x16x12, .f32⟩
  | 30 => ⟨S98x8x64x12, .f32⟩
  | 31 => ⟨S98x1024x8x12, .f32⟩
  | 32 => ⟨S98x8x1024x12, .f32⟩
  | 33 => ⟨S_, .f32⟩
  | 34 => ⟨S98x8x1024x12, .f32⟩
  | 35 => ⟨S98x8x1024x12, .f32⟩
  | 36 => ⟨S98x8x1024x64, .f32⟩
  | 37 => ⟨S_, .f32⟩
  | 38 => ⟨S98x8x1024, .f32⟩
  | 39 => ⟨S_, .f32⟩
  | 40 => ⟨S98x8x1024, .f32⟩
  | 41 => ⟨S98x8x1024, .f32⟩
  | 42 => ⟨S98x8x1024x1, .f32⟩
  | 43 => ⟨S98x8x1024x64, .f32⟩
  | 44 => ⟨S98x8x1024x64, .f32⟩
  | 45 => ⟨S98x8x1024x64, .f32⟩
  | 46 => ⟨S_, .f32⟩
  | 47 => ⟨S98x8x1024, .f32⟩
  | 48 => ⟨S98x8x1024x1, .f32⟩
  | 49 => ⟨S98x8x1024x64, .f32⟩
  | 50 => ⟨S98x8x1024x64, .f32⟩
  | 51 => ⟨S98x8x1024x12, .f32⟩
  | 52 => ⟨S2x7x7x8x32x32x12, .f32⟩
  | 53 => ⟨S2x7x32x7x32x8x12, .f32⟩
  | 54 => ⟨S2x224x224x96, .f32⟩
  | 55 => ⟨S2x224x224x96, .f32⟩
  | 56 => ⟨S2x224x224x96, .f32⟩
  | 57 => ⟨S1x1x1x96, .f32⟩
  | 58 => ⟨S2x224x224x96, .f32⟩
  | 59 => ⟨S2x224x224x96, .f32⟩
  | 60 => ⟨S2x96x224x224, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_call1_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_call2_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_call3_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_9 : Ref sig .tc := ⟨.hbm, 84, rfl⟩
abbrev main_call4_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_10 : Ref sig .tc := ⟨.hbm, 94, rfl⟩
abbrev main_call5_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_11 : Ref sig .tc := ⟨.hbm, 104, rfl⟩
abbrev main_call6_v0 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_12 : Ref sig .tc := ⟨.hbm, 114, rfl⟩
abbrev main_call7_v0 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_13 : Ref sig .tc := ⟨.hbm, 124, rfl⟩
abbrev main_call8_v0 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_14 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_values : Ref sig .tc := ⟨.hbm, 140, rfl⟩
abbrev main_indices : Ref sig .tc := ⟨.hbm, 141, rfl⟩
abbrev main_c_15 : Ref sig .tc := ⟨.hbm, 142, rfl⟩
abbrev main_v108 : Ref sig .tc := ⟨.hbm, 143, rfl⟩
abbrev main_v109 : Ref sig .tc := ⟨.hbm, 144, rfl⟩
abbrev main_c_16 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_17 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_18 : Ref sig .tc := ⟨.hbm, 165, rfl⟩
abbrev main_v128 : Ref sig .tc := ⟨.hbm, 166, rfl⟩
abbrev main_cst_19 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_20 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩

abbrev nD : Nat := 1
abbrev τ : Topo := Topo.v7x

variable {F : FTy → Type} [FloatOps F]
-- ==== Proof.KernelIdeal.Block1.lean ====
module

public import proofs.«01_k».proof.Proof.Gen.KernelIdeal.Skeleton
public import Idealize.ShloMosaic.Lib.VecWindow

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Row `k` of the nine rows of convolution weights. -/
def tap (wl : Vec F S9x96 .f32) (k : ℕ) (hk : ∀ a, (![k, 0] : Fin 2 → ℕ) a + S1x96.size a ≤ S9x96.size a) : Vec F S1x96 .f32 :=
  VecWindow.window wl ![k, 0] S1x96.size hk

/-- The convolution of the values with the nine taps, for one strip of rows. -/
def lepe1 (i : grid1.Coords) (xp xn : Vec F S1x1x224x96 .f32) (xc : Vec F S1x32x224x96 .f32) (wv : Vec F S96x96 .f32) (bv : Vec F S1x96 .f32)
    (wl : Vec F S9x96 .f32) : FVec F S32x224x96 .f32 :=
  k1_pay9 (k1_pay5 (k1_pay4 i xc xp xn wv) bv)
    (k1_pay6 (k1_pay4 i xc xp xn wv) bv (tap wl 0 inb_S9x96_S1x96_0_0) (tap wl 1 inb_S9x96_S1x96_1_0) (tap wl 2 inb_S9x96_S1x96_2_0)
      (tap wl 3 inb_S9x96_S1x96_3_0) (tap wl 4 inb_S9x96_S1x96_4_0))
    (k1_pay7 (k1_pay4 i xc xp xn wv) bv) (k1_pay8 (tap wl 5 inb_S9x96_S1x96_5_0))
    (tap wl 6 inb_S9x96_S1x96_6_0) (tap wl 7 inb_S9x96_S1x96_7_0) (tap wl 8 inb_S9x96_S1x96_8_0)

/-- The output block from the queries `q`, the convolution `l` and the mask `m` already computed: the seven windows of
    the strip one after another. -/
def join1 (q : FVec F S32x7x32x96 .f32) (l : FVec F S32x224x96 .f32) (m : FVec F S512x96 .f32) (k0 k1 k2 k3 k4 k5 k6 k7 k8 k9 k10 k11 k12 k13 k14 k15 k16 k17 k18 k19 k20 k21 k22 k23 k24 k25 k26 k27 : Vec F S1x1x4x1x4x192 .f32)
    (wo : Vec F S96x96 .f32) (bo : Vec F S1x96 .f32) (g : Vec F S512x8 .f32) (h : Vec F S8x96 .f32) : FVec F S1x96x32x224 .f32 :=
  k1_pay1 (k1_pay48 l m
    (k1_pay15 (k1_pay14 l m (k1_pay11 q) (k1_pay12 k0) (k1_pay13 k1) k2 k3 g h wo bo))
    (k1_pay19 l (k1_pay17 q m k4 k5 k6 k7) (k1_pay18 q m k4 k5 k6 k7) g h wo bo)
    (k1_pay24 l m (k1_pay20 q) (k1_pay21 k8) (k1_pay22 k9) (k1_pay23 k10) k11 g h wo bo)
    (k1_pay30 l (k1_pay28 m (k1_pay25 q) k12 k13 k14 k15) (k1_pay29 m (k1_pay25 q) k12 k13 k14 k15 g) h wo bo)
    (k1_pay36 l m (k1_pay31 q) (k1_pay32 k16) (k1_pay33 k17) (k1_pay34 k18) (k1_pay35 k19) g h wo bo)
    (k1_pay43 l (k1_pay41 m (k1_pay37 q) (k1_pay38 k20) k21 k22 k23)
      (k1_pay42 m (k1_pay37 q) (k1_pay38 k20) k21 k22 k23 g h) wo bo)
    (k1_pay44 q) (k1_pay46 k24 k25 k26 k27) (k1_pay47 m k24 k25 k26 k27) g h wo bo)

/-- What the second call's body writes, from its input blocks, the twenty-eight gathered ones apart. -/
def out28 (i : grid1.Coords) (xp : Vec F S1x1x224x96 .f32) (xc : Vec F S1x32x224x96 .f32) (xn : Vec F S1x1x224x96 .f32)
    (k0 k1 k2 k3 k4 k5 k6 k7 k8 k9 k10 k11 k12 k13 k14 k15 k16 k17 k18 k19 k20 k21 k22 k23 k24 k25 k26 k27 : Vec F S1x1x4x1x4x192 .f32) (wq : Vec F S96x96 .f32) (bq : Vec F S1x96 .f32) (wv : Vec F S96x96 .f32) (bv : Vec F S1x96 .f32)
    (wl : Vec F S9x96 .f32) (wo : Vec F S96x96 .f32) (bo : Vec F S1x96 .f32) (mk : Vec F S512x96 .f32) (g : Vec F S512x8 .f32) (h : Vec F S8x96 .f32) :
    FVec F S1x96x32x224 .f32 :=
  join1 (k1_pay3 xc wq bq) (lepe1 i xp xn xc wv bv wl) (k1_pay10 mk) k0 k1 k2 k3 k4 k5 k6 k7 k8 k9 k10 k11 k12 k13 k14 k15 k16 k17 k18 k19 k20 k21 k22 k23 k24 k25 k26 k27 wo bo g h

/-- What the second call's body writes, from its input blocks. -/
def out1 (i : grid1.Coords) (xp : Vec F S1x1x224x96 .f32) (xc : Vec F S1x32x224x96 .f32) (xn : Vec F S1x1x224x96 .f32)
    (kv : Fin 28 → Vec F S1x1x4x1x4x192 .f32) (wq : Vec F S96x96 .f32) (bq : Vec F S1x96 .f32) (wv : Vec F S96x96 .f32) (bv : Vec F S1x96 .f32)
    (wl : Vec F S9x96 .f32) (wo : Vec F S96x96 .f32) (bo : Vec F S1x96 .f32) (mk : Vec F S512x96 .f32) (g : Vec F S512x8 .f32) (h : Vec F S8x96 .f32) :
    FVec F S1x96x32x224 .f32 :=
  out28 i xp xc xn (kv 0) (kv 1) (kv 2) (kv 3) (kv 4) (kv 5) (kv 6) (kv 7) (kv 8) (kv 9) (kv 10) (kv 11) (kv 12) (kv 13) (kv 14) (kv 15) (kv 16) (kv 17) (kv 18) (kv 19) (kv 20) (kv 21) (kv 22) (kv 23) (kv 24) (kv 25) (kv 26) (kv 27) wq bq wv bv wl wo bo mk g h

end Cert.KernelIdeal.Run
end
-- ==== Proof.KernelIdeal.Body1.lean ====
module

public import proofs.«01_k».proof.Proof.KernelIdeal.Block1
public import proofs.«01_k».proof.Proof.Gen.KernelIdeal.Launch
public import Idealize.ShloMosaic.Lib.Pipeline.FrameBody
public import Idealize.ShloMosaic.Lib.Tactic

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of all of a block of this shape reads the block. -/
theorem load_S1x1x224x96 {κ : Kind} {sp : Space} (v : View sig κ sp S1x1x224x96 .f32) (f : v.ty.Contents (Elt F))
    (inb : ∀ a, (![0, 0, 0, 0] : Fin 4 → ℕ) a + (![1, 1, 224, 96] : Fin 4 → ℕ) a ≤ S1x1x224x96.size a) :
    v.readAt (Elt F) (Rect.unit (s := S1x1x224x96) ![0, 0, 0, 0] ![1, 1, 224, 96] inb).toLoadRect f = v.read (Elt F) f := View.readAt_full v f inb

/-- A load of all of a block of this shape reads the block. -/
theorem load_S1x32x224x96 {κ : Kind} {sp : Space} (v : View sig κ sp S1x32x224x96 .f32) (f : v.ty.Contents (Elt F))
    (inb : ∀ a, (![0, 0, 0, 0] : Fin 4 → ℕ) a + (![1, 32, 224, 96] : Fin 4 → ℕ) a ≤ S1x32x224x96.size a) :
    v.readAt (Elt F) (Rect.unit (s := S1x32x224x96) ![0, 0, 0, 0] ![1, 32, 224, 96] inb).toLoadRect f = v.read (Elt F) f := View.readAt_full v f inb

/-- A load of all of a block of this shape reads the block. -/
theorem load_S1x1x4x1x4x192 {κ : Kind} {sp : Space} (v : View sig κ sp S1x1x4x1x4x192 .f32) (f : v.ty.Contents (Elt F))
    (inb : ∀ a, (![0, 0, 0, 0, 0, 0] : Fin 6 → ℕ) a + (![1, 1, 4, 1, 4, 192] : Fin 6 → ℕ) a ≤ S1x1x4x1x4x192.size a) :
    v.readAt (Elt F) (Rect.unit (s := S1x1x4x1x4x192) ![0, 0, 0, 0, 0, 0] ![1, 1, 4, 1, 4, 192] inb).toLoadRect f = v.read (Elt F) f := View.readAt_full v f inb

/-- A load of all of a block of this shape reads the block. -/
theorem load_S96x96 {κ : Kind} {sp : Space} (v : View sig κ sp S96x96 .f32) (f : v.ty.Contents (Elt F))
    (inb : ∀ a, (![0, 0] : Fin 2 → ℕ) a + (![96, 96] : Fin 2 → ℕ) a ≤ S96x96.size a) :
    v.readAt (Elt F) (Rect.unit (s := S96x96) ![0, 0] ![96, 96] inb).toLoadRect f = v.read (Elt F) f := View.readAt_full v f inb

/-- A load of all of a block of this shape reads the block. -/
theorem load_S1x96 {κ : Kind} {sp : Space} (v : View sig κ sp S1x96 .f32) (f : v.ty.Contents (Elt F))
    (inb : ∀ a, (![0, 0] : Fin 2 → ℕ) a + (![1, 96] : Fin 2 → ℕ) a ≤ S1x96.size a) :
    v.readAt (Elt F) (Rect.unit (s := S1x96) ![0, 0] ![1, 96] inb).toLoadRect f = v.read (Elt F) f := View.readAt_full v f inb

/-- A load of all of a block of this shape reads the block. -/
theorem load_S512x96 {κ : Kind} {sp : Space} (v : View sig κ sp S512x96 .f32) (f : v.ty.Contents (Elt F))
    (inb : ∀ a, (![0, 0] : Fin 2 → ℕ) a + (![512, 96] : Fin 2 → ℕ) a ≤ S512x96.size a) :
    v.readAt (Elt F) (Rect.unit (s := S512x96) ![0, 0] ![512, 96] inb).toLoadRect f = v.read (Elt F) f := View.readAt_full v f inb

/-- A load of all of a block of this shape reads the block. -/
theorem load_S512x8 {κ : Kind} {sp : Space} (v : View sig κ sp S512x8 .f32) (f : v.ty.Contents (Elt F))
    (inb : ∀ a, (![0, 0] : Fin 2 → ℕ) a + (![512, 8] : Fin 2 → ℕ) a ≤ S512x8.size a) :
    v.readAt (Elt F) (Rect.unit (s := S512x8) ![0, 0] ![512, 8] inb).toLoadRect f = v.read (Elt F) f := View.readAt_full v f inb

/-- A load of all of a block of this shape reads the block. -/
theorem load_S8x96 {κ : Kind} {sp : Space} (v : View sig κ sp S8x96 .f32) (f : v.ty.Contents (Elt F))
    (inb : ∀ a, (![0, 0] : Fin 2 → ℕ) a + (![8, 96] : Fin 2 → ℕ) a ≤ S8x96.size a) :
    v.readAt (Elt F) (Rect.unit (s := S8x96) ![0, 0] ![8, 96] inb).toLoadRect f = v.read (Elt F) f := View.readAt_full v f inb

/-- A load of one row of the taps reads that row. -/
theorem load_tap {κ : Kind} {sp : Space} (v : View sig κ sp S9x96 .f32) (f : v.ty.Contents (Elt F)) (k : ℕ)
    (inb : ∀ a, (![k, 0] : Fin 2 → ℕ) a + (![1, 96] : Fin 2 → ℕ) a ≤ S9x96.size a) :
    v.readAt (Elt F) (Rect.unit (s := S9x96) ![k, 0] ![1, 96] inb).toLoadRect f = tap (v.read (Elt F) f) k inb := rfl

set_option maxHeartbeats 4000000 in
set_option maxRecDepth 65536 in
/-- The second call's body: on whole blocks holding the inputs it leaves these, and the output block at `out28`. -/
theorem sound_body1 (c : Dev nD) (E : Set ℕ) (i : grid1.Coords) (arg2 : Memref sig .tc .smem S2x49x4 .i32) (harg2 : arg2.IsWhole) (arg3 : Memref sig .tc .vmem S1x1x224x96 .f32) (harg3 : arg3.IsWhole) (arg4 : Memref sig .tc .vmem S1x32x224x96 .f32) (harg4 : arg4.IsWhole) (arg5 : Memref sig .tc .vmem S1x1x224x96 .f32) (harg5 : arg5.IsWhole) (arg6 : Memref sig .tc .vmem S1x1x4x1x4x192 .f32) (harg6 : arg6.IsWhole) (arg7 : Memref sig .tc .vmem S1x1x4x1x4x192 .f32) (harg7 : arg7.IsWhole) (arg8 : Memref sig .tc .vmem S1x1x4x1x4x192 .f32) (harg8 : arg8.IsWhole) (arg9 : Memref sig .tc .vmem S1x1x4x1x4x192 .f32) (harg9 : arg9.IsWhole) (arg10 : Memref sig .tc .vmem S1x1x4x1x4x192 .f32) (harg10 : arg10.IsWhole) (arg11 : Memref sig .tc .vmem S1x1x4x1x4x192 .f32) (harg11 : arg11.IsWhole) (arg12 : Memref sig .tc .vmem S1x1x4x1x4x192 .f32) (harg12 : arg12.IsWhole) (arg13 : Memref sig .tc .vmem S1x1x4x1x4x192 .f32) (harg13 : arg13.IsWhole) (arg14 : Memref sig .tc .vmem S1x1x4x1x4x192 .f32) (harg14 : arg14.IsWhole) (arg15 : Memref sig .tc .vmem S1x1x4x1x4x192 .f32) (harg15 : arg15.IsWhole) (arg16 : Memref sig .tc .vmem S1x1x4x1x4x192 .f32) (harg16 : arg16.IsWhole) (arg17 : Memref sig .tc .vmem S1x1x4x1x4x192 .f32) (harg17 : arg17.IsWhole) (arg18 : Memref sig .tc .vmem S1x1x4x1x4x192 .f32) (harg18 : arg18.IsWhole) (arg19 : Memref sig .tc .vmem S1x1x4x1x4x192 .f32) (harg19 : arg19.IsWhole) (arg20 : Memref sig .tc .vmem S1x1x4x1x4x192 .f32) (harg20 : arg20.IsWhole) (arg21 : Memref sig .tc .vmem S1x1x4x1x4x192 .f32) (harg21 : arg21.IsWhole) (arg22 : Memref sig .tc .vmem S1x1x4x1x4x192 .f32) (harg22 : arg22.IsWhole) (arg23 : Memref sig .tc .vmem S1x1x4x1x4x192 .f32) (harg23 : arg23.IsWhole) (arg24 : Memref sig .tc .vmem S1x1x4x1x4x192 .f32) (harg24 : arg24.IsWhole) (arg25 : Memref sig .tc .vmem S1x1x4x1x4x192 .f32) (harg25 : arg25.IsWhole) (arg26 : Memref sig .tc .vmem S1x1x4x1x4x192 .f32) (harg26 : arg26.IsWhole) (arg27 : Memref sig .tc .vmem S1x1x4x1x4x192 .f32) (harg27 : arg27.IsWhole) (arg28 : Memref sig .tc .vmem S1x1x4x1x4x192 .f32) (harg28 : arg28.IsWhole) (arg29 : Memref sig .tc .vmem S1x1x4x1x4x192 .f32) (harg29 : arg29.IsWhole) (arg30 : Memref sig .tc .vmem S1x1x4x1x4x192 .f32) (harg30 : arg30.IsWhole) (arg31 : Memref sig .tc .vmem S1x1x4x1x4x192 .f32) (harg31 : arg31.IsWhole) (arg32 : Memref sig .tc .vmem S1x1x4x1x4x192 .f32) (harg32 : arg32.IsWhole) (arg33 : Memref sig .tc .vmem S1x1x4x1x4x192 .f32) (harg33 : arg33.IsWhole) (arg34 : Memref sig .tc .vmem S96x96 .f32) (harg34 : arg34.IsWhole) (arg35 : Memref sig .tc .vmem S1x96 .f32) (harg35 : arg35.IsWhole) (arg36 : Memref sig .tc .vmem S96x96 .f32) (harg36 : arg36.IsWhole) (arg37 : Memref sig .tc .vmem S1x96 .f32) (harg37 : arg37.IsWhole) (arg38 : Memref sig .tc .vmem S9x96 .f32) (harg38 : arg38.IsWhole) (arg39 : Memref sig .tc .vmem S96x96 .f32) (harg39 : arg39.IsWhole) (arg40 : Memref sig .tc .vmem S1x96 .f32) (harg40 : arg40.IsWhole) (arg41 : Memref sig .tc .vmem S512x96 .f32) (harg41 : arg41.IsWhole) (arg42 : Memref sig .tc .vmem S512x8 .f32) (harg42 : arg42.IsWhole) (arg43 : Memref sig .tc .vmem S8x96 .f32) (harg43 : arg43.IsWhole) (arg44 : Memref sig .tc .vmem S1x96x32x224 .f32) (harg44 : arg44.IsWhole)
    (xp : Vec F S1x1x224x96 .f32) (xc : Vec F S1x32x224x96 .f32) (xn : Vec F S1x1x224x96 .f32)
    (k0 k1 k2 k3 k4 k5 k6 k7 k8 k9 k10 k11 k12 k13 k14 k15 k16 k17 k18 k19 k20 k21 k22 k23 k24 k25 k26 k27 : Vec F S1x1x4x1x4x192 .f32) (wq : Vec F S96x96 .f32) (bq : Vec F S1x96 .f32) (wv : Vec F S96x96 .f32) (bv : Vec F S1x96 .f32)
    (wl : Vec F S9x96 .f32) (wo : Vec F S96x96 .f32) (bo : Vec F S1x96 .f32) (mk : Vec F S512x96 .f32) (g : Vec F S512x8 .f32) (h : Vec F S8x96 .f32) (K : PUnit → sProp 𝕄) :
    iprop(owns (c : Thread nD τ) arg3 fullShare xp ∗ owns (c : Thread nD τ) arg4 fullShare xc ∗ owns (c : Thread nD τ) arg5 fullShare xn ∗ owns (c : Thread nD τ) arg6 fullShare k0 ∗ owns (c : Thread nD τ) arg7 fullShare k1 ∗ owns (c : Thread nD τ) arg8 fullShare k2 ∗ owns (c : Thread nD τ) arg9 fullShare k3 ∗ owns (c : Thread nD τ) arg10 fullShare k4 ∗ owns (c : Thread nD τ) arg11 fullShare k5 ∗ owns (c : Thread nD τ) arg12 fullShare k6 ∗ owns (c : Thread nD τ) arg13 fullShare k7 ∗ owns (c : Thread nD τ) arg14 fullShare k8 ∗ owns (c : Thread nD τ) arg15 fullShare k9 ∗ owns (c : Thread nD τ) arg16 fullShare k10 ∗ owns (c : Thread nD τ) arg17 fullShare k11 ∗ owns (c : Thread nD τ) arg18 fullShare k12 ∗ owns (c : Thread nD τ) arg19 fullShare k13 ∗ owns (c : Thread nD τ) arg20 fullShare k14 ∗ owns (c : Thread nD τ) arg21 fullShare k15 ∗ owns (c : Thread nD τ) arg22 fullShare k16 ∗ owns (c : Thread nD τ) arg23 fullShare k17 ∗ owns (c : Thread nD τ) arg24 fullShare k18 ∗ owns (c : Thread nD τ) arg25 fullShare k19 ∗ owns (c : Thread nD τ) arg26 fullShare k20 ∗ owns (c : Thread nD τ) arg27 fullShare k21 ∗ owns (c : Thread nD τ) arg28 fullShare k22 ∗ owns (c : Thread nD τ) arg29 fullShare k23 ∗ owns (c : Thread nD τ) arg30 fullShare k24 ∗ owns (c : Thread nD τ) arg31 fullShare k25 ∗ owns (c : Thread nD τ) arg32 fullShare k26 ∗ owns (c : Thread nD τ) arg33 fullShare k27 ∗ owns (c : Thread nD τ) arg34 fullShare wq ∗ owns (c : Thread nD τ) arg35 fullShare bq ∗ owns (c : Thread nD τ) arg36 fullShare wv ∗ owns (c : Thread nD τ) arg37 fullShare bv ∗ owns (c : Thread nD τ) arg38 fullShare wl ∗ owns (c : Thread nD τ) arg39 fullShare wo ∗ owns (c : Thread nD τ) arg40 fullShare bo ∗ owns (c : Thread nD τ) arg41 fullShare mk ∗ owns (c : Thread nD τ) arg42 fullShare g ∗ owns (c : Thread nD τ) arg43 fullShare h ∗ (∃ d, owns (c : Thread nD τ) arg44 fullShare d)
        ∗ (iprop(owns (c : Thread nD τ) arg3 fullShare xp ∗ owns (c : Thread nD τ) arg4 fullShare xc ∗ owns (c : Thread nD τ) arg5 fullShare xn ∗ owns (c : Thread nD τ) arg6 fullShare k0 ∗ owns (c : Thread nD τ) arg7 fullShare k1 ∗ owns (c : Thread nD τ) arg8 fullShare k2 ∗ owns (c : Thread nD τ) arg9 fullShare k3 ∗ owns (c : Thread nD τ) arg10 fullShare k4 ∗ owns (c : Thread nD τ) arg11 fullShare k5 ∗ owns (c : Thread nD τ) arg12 fullShare k6 ∗ owns (c : Thread nD τ) arg13 fullShare k7 ∗ owns (c : Thread nD τ) arg14 fullShare k8 ∗ owns (c : Thread nD τ) arg15 fullShare k9 ∗ owns (c : Thread nD τ) arg16 fullShare k10 ∗ owns (c : Thread nD τ) arg17 fullShare k11 ∗ owns (c : Thread nD τ) arg18 fullShare k12 ∗ owns (c : Thread nD τ) arg19 fullShare k13 ∗ owns (c : Thread nD τ) arg20 fullShare k14 ∗ owns (c : Thread nD τ) arg21 fullShare k15 ∗ owns (c : Thread nD τ) arg22 fullShare k16 ∗ owns (c : Thread nD τ) arg23 fullShare k17 ∗ owns (c : Thread nD τ) arg24 fullShare k18 ∗ owns (c : Thread nD τ) arg25 fullShare k19 ∗ owns (c : Thread nD τ) arg26 fullShare k20 ∗ owns (c : Thread nD τ) arg27 fullShare k21 ∗ owns (c : Thread nD τ) arg28 fullShare k22 ∗ owns (c : Thread nD τ) arg29 fullShare k23 ∗ owns (c : Thread nD τ) arg30 fullShare k24 ∗ owns (c : Thread nD τ) arg31 fullShare k25 ∗ owns (c : Thread nD τ) arg32 fullShare k26 ∗ owns (c : Thread nD τ) arg33 fullShare k27 ∗ owns (c : Thread nD τ) arg34 fullShare wq ∗ owns (c : Thread nD τ) arg35 fullShare bq ∗ owns (c : Thread nD τ) arg36 fullShare wv ∗ owns (c : Thread nD τ) arg37 fullShare bv ∗ owns (c : Thread nD τ) arg38 fullShare wl ∗ owns (c : Thread nD τ) arg39 fullShare wo ∗ owns (c : Thread nD τ) arg40 fullShare bo ∗ owns (c : Thread nD τ) arg41 fullShare mk ∗ owns (c : Thread nD τ) arg42 fullShare g ∗ owns (c : Thread nD τ) arg43 fullShare h ∗ owns (c : Thread nD τ) arg44 fullShare (out28 i xp xc xn k0 k1 k2 k3 k4 k5 k6 k7 k8 k9 k10 k11 k12 k13 k14 k15 k16 k17 k18 k19 k20 k21 k22 k23 k24 k25 k26 k27 wq bq wv bv wl wo bo mk g h)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc1__attn_kernel_eq_skeleton]; unfold cc1__attn_kernel_skel
  simp only [k1_part13_eq_skeleton]; unfold k1_part13_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  simp only [k1_part10_eq_skeleton]; unfold k1_part10_skel
  simp only [k1_part11_eq_skeleton]; unfold k1_part11_skel
  simp only [k1_part12_eq_skeleton]; unfold k1_part12_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%d41, %f41, -, H41⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists f19; isplitr; · ipureintro; exact hf19
    iexact H19
  isplitl [H20]
  · iexists f20; isplitr; · ipureintro; exact hf20
    iexact H20
  isplitl [H21]
  · iexists f21; isplitr; · ipureintro; exact hf21
    iexact H21
  isplitl [H22]
  · iexists f22; isplitr; · ipureintro; exact hf22
    iexact H22
  isplitl [H23]
  · iexists f23; isplitr; · ipureintro; exact hf23
    iexact H23
  isplitl [H24]
  · iexists f24; isplitr; · ipureintro; exact hf24
    iexact H24
  isplitl [H25]
  · iexists f25; isplitr; · ipureintro; exact hf25
    iexact H25
  isplitl [H26]
  · iexists f26; isplitr; · ipureintro; exact hf26
    iexact H26
  isplitl [H27]
  · iexists f27; isplitr; · ipureintro; exact hf27
    iexact H27
  isplitl [H28]
  · iexists f28; isplitr; · ipureintro; exact hf28
    iexact H28
  isplitl [H29]
  · iexists f29; isplitr; · ipureintro; exact hf29
    iexact H29
  isplitl [H30]
  · iexists f30; isplitr; · ipureintro; exact hf30
    iexact H30
  isplitl [H31]
  · iexists f31; isplitr; · ipureintro; exact hf31
    iexact H31
  isplitl [H32]
  · iexists f32; isplitr; · ipureintro; exact hf32
    iexact H32
  isplitl [H33]
  · iexists f33; isplitr; · ipureintro; exact hf33
    iexact H33
  isplitl [H34]
  · iexists f34; isplitr; · ipureintro; exact hf34
    iexact H34
  isplitl [H35]
  · iexists f35; isplitr; · ipureintro; exact hf35
    iexact H35
  isplitl [H36]
  · iexists f36; isplitr; · ipureintro; exact hf36
    iexact H36
  isplitl [H37]
  · iexists f37; isplitr; · ipureintro; exact hf37
    iexact H37
  isplitl [H38]
  · iexists f38; isplitr; · ipureintro; exact hf38
    iexact H38
  isplitl [H39]
  · iexists f39; isplitr; · ipureintro; exact hf39
    iexact H39
  isplitl [H40]
  · iexists f40; isplitr; · ipureintro; exact hf40
    iexact H40
  iexists _; isplitr
  swap; · iexact H41
  ipureintro
  refine (View.read_writes_full arg44.view f41 _ _ _).trans ?_
  unfold sound_body1.sl.v0 sound_body1.sl.v14 sound_body1.sl.v19 sound_body1.sl.v250 sound_body1.sl.v253 sound_body1.sl.v256 sound_body1.sl.v259 sound_body1.sl.v298 sound_body1.sl.v301 sound_body1.sl.v304 sound_body1.sl.v307 sound_body1.sl.v346 sound_body1.sl.v349 sound_body1.sl.v352 sound_body1.sl.v355 sound_body1.sl.v106 sound_body1.sl.v109 sound_body1.sl.v112 sound_body1.sl.v115 sound_body1.sl.v154 sound_body1.sl.v157 sound_body1.sl.v160 sound_body1.sl.v163 sound_body1.sl.v202 sound_body1.sl.v205 sound_body1.sl.v208 sound_body1.sl.v211
  simp only [load_tap, load_S1x1x224x96, load_S1x32x224x96, load_S1x1x4x1x4x192, load_S96x96, load_S1x96, load_S512x96, load_S512x8, load_S8x96]
  simp only [hf0, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf40]
  unfold out28 join1 lepe1
  with_reducible rfl

/-- The same with the gathered blocks as one family. -/
theorem sound_kernel1 (c : Dev nD) (E : Set ℕ) (i : grid1.Coords) (arg2 : Memref sig .tc .smem S2x49x4 .i32) (harg2 : arg2.IsWhole) (arg3 : Memref sig .tc .vmem S1x1x224x96 .f32) (harg3 : arg3.IsWhole) (arg4 : Memref sig .tc .vmem S1x32x224x96 .f32) (harg4 : arg4.IsWhole) (arg5 : Memref sig .tc .vmem S1x1x224x96 .f32) (harg5 : arg5.IsWhole) (arg6 : Memref sig .tc .vmem S1x1x4x1x4x192 .f32) (harg6 : arg6.IsWhole) (arg7 : Memref sig .tc .vmem S1x1x4x1x4x192 .f32) (harg7 : arg7.IsWhole) (arg8 : Memref sig .tc .vmem S1x1x4x1x4x192 .f32) (harg8 : arg8.IsWhole) (arg9 : Memref sig .tc .vmem S1x1x4x1x4x192 .f32) (harg9 : arg9.IsWhole) (arg10 : Memref sig .tc .vmem S1x1x4x1x4x192 .f32) (harg10 : arg10.IsWhole) (arg11 : Memref sig .tc .vmem S1x1x4x1x4x192 .f32) (harg11 : arg11.IsWhole) (arg12 : Memref sig .tc .vmem S1x1x4x1x4x192 .f32) (harg12 : arg12.IsWhole) (arg13 : Memref sig .tc .vmem S1x1x4x1x4x192 .f32) (harg13 : arg13.IsWhole) (arg14 : Memref sig .tc .vmem S1x1x4x1x4x192 .f32) (harg14 : arg14.IsWhole) (arg15 : Memref sig .tc .vmem S1x1x4x1x4x192 .f32) (harg15 : arg15.IsWhole) (arg16 : Memref sig .tc .vmem S1x1x4x1x4x192 .f32) (harg16 : arg16.IsWhole) (arg17 : Memref sig .tc .vmem S1x1x4x1x4x192 .f32) (harg17 : arg17.IsWhole) (arg18 : Memref sig .tc .vmem S1x1x4x1x4x192 .f32) (harg18 : arg18.IsWhole) (arg19 : Memref sig .tc .vmem S1x1x4x1x4x192 .f32) (harg19 : arg19.IsWhole) (arg20 : Memref sig .tc .vmem S1x1x4x1x4x192 .f32) (harg20 : arg20.IsWhole) (arg21 : Memref sig .tc .vmem S1x1x4x1x4x192 .f32) (harg21 : arg21.IsWhole) (arg22 : Memref sig .tc .vmem S1x1x4x1x4x192 .f32) (harg22 : arg22.IsWhole) (arg23 : Memref sig .tc .vmem S1x1x4x1x4x192 .f32) (harg23 : arg23.IsWhole) (arg24 : Memref sig .tc .vmem S1x1x4x1x4x192 .f32) (harg24 : arg24.IsWhole) (arg25 : Memref sig .tc .vmem S1x1x4x1x4x192 .f32) (harg25 : arg25.IsWhole) (arg26 : Memref sig .tc .vmem S1x1x4x1x4x192 .f32) (harg26 : arg26.IsWhole) (arg27 : Memref sig .tc .vmem S1x1x4x1x4x192 .f32) (harg27 : arg27.IsWhole) (arg28 : Memref sig .tc .vmem S1x1x4x1x4x192 .f32) (harg28 : arg28.IsWhole) (arg29 : Memref sig .tc .vmem S1x1x4x1x4x192 .f32) (harg29 : arg29.IsWhole) (arg30 : Memref sig .tc .vmem S1x1x4x1x4x192 .f32) (harg30 : arg30.IsWhole) (arg31 : Memref sig .tc .vmem S1x1x4x1x4x192 .f32) (harg31 : arg31.IsWhole) (arg32 : Memref sig .tc .vmem S1x1x4x1x4x192 .f32) (harg32 : arg32.IsWhole) (arg33 : Memref sig .tc .vmem S1x1x4x1x4x192 .f32) (harg33 : arg33.IsWhole) (arg34 : Memref sig .tc .vmem S96x96 .f32) (harg34 : arg34.IsWhole) (arg35 : Memref sig .tc .vmem S1x96 .f32) (harg35 : arg35.IsWhole) (arg36 : Memref sig .tc .vmem S96x96 .f32) (harg36 : arg36.IsWhole) (arg37 : Memref sig .tc .vmem S1x96 .f32) (harg37 : arg37.IsWhole) (arg38 : Memref sig .tc .vmem S9x96 .f32) (harg38 : arg38.IsWhole) (arg39 : Memref sig .tc .vmem S96x96 .f32) (harg39 : arg39.IsWhole) (arg40 : Memref sig .tc .vmem S1x96 .f32) (harg40 : arg40.IsWhole) (arg41 : Memref sig .tc .vmem S512x96 .f32) (harg41 : arg41.IsWhole) (arg42 : Memref sig .tc .vmem S512x8 .f32) (harg42 : arg42.IsWhole) (arg43 : Memref sig .tc .vmem S8x96 .f32) (harg43 : arg43.IsWhole) (arg44 : Memref sig .tc .vmem S1x96x32x224 .f32) (harg44 : arg44.IsWhole)
    (xp : Vec F S1x1x224x96 .f32) (xc : Vec F S1x32x224x96 .f32) (xn : Vec F S1x1x224x96 .f32)
    (kv : Fin 28 → Vec F S1x1x4x1x4x192 .f32) (wq : Vec F S96x96 .f32) (bq : Vec F S1x96 .f32) (wv : Vec F S96x96 .f32) (bv : Vec F S1x96 .f32)
    (wl : Vec F S9x96 .f32) (wo : Vec F S96x96 .f32) (bo : Vec F S1x96 .f32) (mk : Vec F S512x96 .f32) (g : Vec F S512x8 .f32) (h : Vec F S8x96 .f32) (K : PUnit → sProp 𝕄) :
    iprop(owns (c : Thread nD τ) arg3 fullShare xp ∗ owns (c : Thread nD τ) arg4 fullShare xc ∗ owns (c : Thread nD τ) arg5 fullShare xn ∗ owns (c : Thread nD τ) arg6 fullShare (kv 0) ∗ owns (c : Thread nD τ) arg7 fullShare (kv 1) ∗ owns (c : Thread nD τ) arg8 fullShare (kv 2) ∗ owns (c : Thread nD τ) arg9 fullShare (kv 3) ∗ owns (c : Thread nD τ) arg10 fullShare (kv 4) ∗ owns (c : Thread nD τ) arg11 fullShare (kv 5) ∗ owns (c : Thread nD τ) arg12 fullShare (kv 6) ∗ owns (c : Thread nD τ) arg13 fullShare (kv 7) ∗ owns (c : Thread nD τ) arg14 fullShare (kv 8) ∗ owns (c : Thread nD τ) arg15 fullShare (kv 9) ∗ owns (c : Thread nD τ) arg16 fullShare (kv 10) ∗ owns (c : Thread nD τ) arg17 fullShare (kv 11) ∗ owns (c : Thread nD τ) arg18 fullShare (kv 12) ∗ owns (c : Thread nD τ) arg19 fullShare (kv 13) ∗ owns (c : Thread nD τ) arg20 fullShare (kv 14) ∗ owns (c : Thread nD τ) arg21 fullShare (kv 15) ∗ owns (c : Thread nD τ) arg22 fullShare (kv 16) ∗ owns (c : Thread nD τ) arg23 fullShare (kv 17) ∗ owns (c : Thread nD τ) arg24 fullShare (kv 18) ∗ owns (c : Thread nD τ) arg25 fullShare (kv 19) ∗ owns (c : Thread nD τ) arg26 fullShare (kv 20) ∗ owns (c : Thread nD τ) arg27 fullShare (kv 21) ∗ owns (c : Thread nD τ) arg28 fullShare (kv 22) ∗ owns (c : Thread nD τ) arg29 fullShare (kv 23) ∗ owns (c : Thread nD τ) arg30 fullShare (kv 24) ∗ owns (c : Thread nD τ) arg31 fullShare (kv 25) ∗ owns (c : Thread nD τ) arg32 fullShare (kv 26) ∗ owns (c : Thread nD τ) arg33 fullShare (kv 27) ∗ owns (c : Thread nD τ) arg34 fullShare wq ∗ owns (c : Thread nD τ) arg35 fullShare bq ∗ owns (c : Thread nD τ) arg36 fullShare wv ∗ owns (c : Thread nD τ) arg37 fullShare bv ∗ owns (c : Thread nD τ) arg38 fullShare wl ∗ owns (c : Thread nD τ) arg39 fullShare wo ∗ owns (c : Thread nD τ) arg40 fullShare bo ∗ owns (c : Thread nD τ) arg41 fullShare mk ∗ owns (c : Thread nD τ) arg42 fullShare g ∗ owns (c : Thread nD τ) arg43 fullShare h ∗ (∃ d, owns (c : Thread nD τ) arg44 fullShare d)
        ∗ (iprop(owns (c : Thread nD τ) arg3 fullShare xp ∗ owns (c : Thread nD τ) arg4 fullShare xc ∗ owns (c : Thread nD τ) arg5 fullShare xn ∗ owns (c : Thread nD τ) arg6 fullShare (kv 0) ∗ owns (c : Thread nD τ) arg7 fullShare (kv 1) ∗ owns (c : Thread nD τ) arg8 fullShare (kv 2) ∗ owns (c : Thread nD τ) arg9 fullShare (kv 3) ∗ owns (c : Thread nD τ) arg10 fullShare (kv 4) ∗ owns (c : Thread nD τ) arg11 fullShare (kv 5) ∗ owns (c : Thread nD τ) arg12 fullShare (kv 6) ∗ owns (c : Thread nD τ) arg13 fullShare (kv 7) ∗ owns (c : Thread nD τ) arg14 fullShare (kv 8) ∗ owns (c : Thread nD τ) arg15 fullShare (kv 9) ∗ owns (c : Thread nD τ) arg16 fullShare (kv 10) ∗ owns (c : Thread nD τ) arg17 fullShare (kv 11) ∗ owns (c : Thread nD τ) arg18 fullShare (kv 12) ∗ owns (c : Thread nD τ) arg19 fullShare (kv 13) ∗ owns (c : Thread nD τ) arg20 fullShare (kv 14) ∗ owns (c : Thread nD τ) arg21 fullShare (kv 15) ∗ owns (c : Thread nD τ) arg22 fullShare (kv 16) ∗ owns (c : Thread nD τ) arg23 fullShare (kv 17) ∗ owns (c : Thread nD τ) arg24 fullShare (kv 18) ∗ owns (c : Thread nD τ) arg25 fullShare (kv 19) ∗ owns (c : Thread nD τ) arg26 fullShare (kv 20) ∗ owns (c : Thread nD τ) arg27 fullShare (kv 21) ∗ owns (c : Thread nD τ) arg28 fullShare (kv 22) ∗ owns (c : Thread nD τ) arg29 fullShare (kv 23) ∗ owns (c : Thread nD τ) arg30 fullShare (kv 24) ∗ owns (c : Thread nD τ) arg31 fullShare (kv 25) ∗ owns (c : Thread nD τ) arg32 fullShare (kv 26) ∗ owns (c : Thread nD τ) arg33 fullShare (kv 27) ∗ owns (c : Thread nD τ) arg34 fullShare wq ∗ owns (c : Thread nD τ) arg35 fullShare bq ∗ owns (c : Thread nD τ) arg36 fullShare wv ∗ owns (c : Thread nD τ) arg37 fullShare bv ∗ owns (c : Thread nD τ) arg38 fullShare wl ∗ owns (c : Thread nD τ) arg39 fullShare wo ∗ owns (c : Thread nD τ) arg40 fullShare bo ∗ owns (c : Thread nD τ) arg41 fullShare mk ∗ owns (c : Thread nD τ) arg42 fullShare g ∗ owns (c : Thread nD τ) arg43 fullShare h ∗ owns (c : Thread nD τ) arg44 fullShare (out1 i xp xc xn kv wq bq wv bv wl wo bo mk g h)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K :=
  sound_body1 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 xp xc xn (kv 0) (kv 1) (kv 2) (kv 3) (kv 4) (kv 5) (kv 6) (kv 7) (kv 8) (kv 9) (kv 10) (kv 11) (kv 12) (kv 13) (kv 14) (kv 15) (kv 16) (kv 17) (kv 18) (kv 19) (kv 20) (kv 21) (kv 22) (kv 23) (kv 24) (kv 25) (kv 26) (kv 27) wq bq wv bv wl wo bo mk g h K

end Cert.KernelIdeal.Run
end
-- ==== Proof.KernelIdeal.Region0.lean ====
module
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.VecWindow
public import Idealize.ShloMosaic.Lib.Tactic

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the proofs use: the pipeline library's own and nothing beside. -/
abbrev UU : Type := UR sig nD τ
local notation "𝕄" => MT nD τ sig Unit (Elt F) ℕ UU ℕ

/-- The first call's body reads its three input blocks and writes the pooled keys and values and the transposed input:
    on whole blocks holding `x0`, `x1`, `x2` it leaves these and the two computed blocks. -/

theorem sound_kernel0 (c : Dev nD) (E : Set ℕ) (i : grid0.Coords) (arg2 : Memref sig .tc .vmem S1x96x32x224 .f32) (harg2 : arg2.IsWhole) (arg3 : Memref sig .tc .vmem S96x192 .f32) (harg3 : arg3.IsWhole) (arg4 : Memref sig .tc .vmem S1x192 .f32) (harg4 : arg4.IsWhole) (arg5 : Memref sig .tc .vmem S1x1x4x7x4x192 .f32) (harg5 : arg5.IsWhole) (arg6 : Memref sig .tc .vmem S1x32x224x96 .f32) (harg6 : arg6.IsWhole)
    (x0 : Vec F S1x96x32x224 .f32) (x1 : Vec F S96x192 .f32) (x2 : Vec F S1x192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
        ∗ owns (c : Thread nD τ) arg5 fullShare (k0_pay3 x0 x1 x2) ∗ owns (c : Thread nD τ) arg6 fullShare (k0_pay2 x0)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_full arg5.view f3 _ _ _).trans ?_
    exact congr (congr (congrArg k0_pay3 (View.readAt_full arg2.view f0 _)) (View.readAt_full arg3.view f1 _)) (View.readAt_full arg4.view f2 _)
  · iexists _; isplitr
    swap; · iexact H4
    ipureintro
    refine (View.read_writes_full arg6.view f4 _ _ _).trans ?_
    exact congrArg k0_pay2 (View.readAt_full arg2.view f0 _)

variable (V : Dev nD → Valuation τ sig (Elt F))

/-- The block window `w` of the first call has at grid point `t`, read off the contents `V` at the call's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The first call's data: arrays as found at entry; each input block kept, each output block at the computed value. -/
def dat0 (c : Dev nD) : Dat τ (Elt F) Unit ℕ UU ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => k0_pay3 (iblk0 V c 0 t) (iblk0 V c 1 t) (iblk0 V c 2 t)
    | ⟨4, _⟩ => k0_pay2 (iblk0 V c 0 t)
  Φ _ := Pipeline.scopedRest spec0 c
  q _ := fullShare
  owed _ := 0

/-- The data's arrays are the entry contents. -/
theorem A_eq0 (c : Dev nD) (w : Fin cfg0.W) : (dat0 V c).A w = V c (Proc.devRef .tc (Pipeline.arrRef spec0 w)) := by
  dsimp only [dat0]

/-- What the body leaves in the first input's block. -/
theorem after0_0 (c : Dev nD) (t : Fin cfg0.N) : (dat0 V c).after 0 t = iblk0 V c 0 t := by dsimp only [dat0]
/-- What the body leaves in the weights' block. -/
theorem after0_1 (c : Dev nD) (t : Fin cfg0.N) : (dat0 V c).after 1 t = iblk0 V c 1 t := by dsimp only [dat0]
/-- What the body leaves in the bias's block. -/
theorem after0_2 (c : Dev nD) (t : Fin cfg0.N) : (dat0 V c).after 2 t = iblk0 V c 2 t := by dsimp only [dat0]
/-- What the body leaves in the pooled block. -/
theorem after0_3 (c : Dev nD) (t : Fin cfg0.N) :
    (dat0 V c).after 3 t = k0_pay3 (iblk0 V c 0 t) (iblk0 V c 1 t) (iblk0 V c 2 t) := by dsimp only [dat0]
/-- What the body leaves in the transposed block. -/
theorem after0_4 (c : Dev nD) (t : Fin cfg0.N) : (dat0 V c).after 4 t = k0_pay2 (iblk0 V c 0 t) := by dsimp only [dat0]

/-- The body finds each input's block in its buffer. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- The body finds each input's block in its buffer. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- The body finds each input's block in its buffer. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point, by its triple. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`. -/
theorem defs_row0 (t : Fin cfg0.N) :
    defs₀ (F := F) .tc cfg0.body (cfg0.bodyArgs t (cfg0.slots t)) = bodyAt0 t := by
  unfold defs₀; rw [Defs.onTc_tc]

/-- The library's obligation on the first call's body. -/
theorem body_obligation0 (c : Dev nD) : BodyObligation (dat0 (F := F) V c) (defs₀ (F := F)) Variants.none () Set.univ := fun t => by
  rw [bigSep_W0, bigSep_W0, defs_row0]
  exact triple_restated (sound_body0 V c t) rfl .rfl fun _ => .rfl

end Cert.KernelIdeal.Run
end
-- ==== Proof.KernelIdeal.Region1.lean ====
module

public import proofs.«01_k».proof.Proof.KernelIdeal.Body1
public import proofs.«01_k».proof.Proof.KernelIdeal.Region0

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F)) (a : (pcfg1 (F := F)).Adm)

/-- The block window `w` of the second call has at grid point `t`, read off the contents `V` at the call's entry. -/
def iblk1 (c : Dev nD) (w : Fin (pcfg1.at a).W) (t : Fin (pcfg1.at a).N) :
    (((pcfg1.at a).win w).xblock ((pcfg1.at a).grid.coords t)).Idx → Elt F ((pcfg1.at a).win w).elt :=
  (((pcfg1.at a).win w).blk t).view.read (Elt F) (V c (Proc.devRef .tc (Pipeline.arrRef spec1 w)))

/-- The 28 gathered key and value blocks at grid point `t`. -/
def kvs (c : Dev nD) (t : Fin (pcfg1.at a).N) : Fin 28 → Vec F S1x1x4x1x4x192 .f32 :=
  ![iblk1 V a c 3 t, iblk1 V a c 4 t, iblk1 V a c 5 t, iblk1 V a c 6 t, iblk1 V a c 7 t, iblk1 V a c 8 t, iblk1 V a c 9 t,
    iblk1 V a c 10 t, iblk1 V a c 11 t, iblk1 V a c 12 t, iblk1 V a c 13 t, iblk1 V a c 14 t, iblk1 V a c 15 t, iblk1 V a c 16 t,
    iblk1 V a c 17 t, iblk1 V a c 18 t, iblk1 V a c 19 t, iblk1 V a c 20 t, iblk1 V a c 21 t, iblk1 V a c 22 t, iblk1 V a c 23 t,
    iblk1 V a c 24 t, iblk1 V a c 25 t, iblk1 V a c 26 t, iblk1 V a c 27 t, iblk1 V a c 28 t, iblk1 V a c 29 t, iblk1 V a c 30 t]

/-- The output block the second call computes at grid point `t`. -/
def oblk1 (c : Dev nD) (t : Fin (pcfg1.at a).N) : Vec F S1x96x32x224 .f32 :=
  out1 (grid1.coords t) (iblk1 V a c 0 t) (iblk1 V a c 1 t) (iblk1 V a c 2 t) (kvs V a c t) (iblk1 V a c 31 t) (iblk1 V a c 32 t)
    (iblk1 V a c 33 t) (iblk1 V a c 34 t) (iblk1 V a c 35 t) (iblk1 V a c 36 t) (iblk1 V a c 37 t) (iblk1 V a c 38 t)
    (iblk1 V a c 39 t) (iblk1 V a c 40 t)

/-- The second call's data: arrays as found at entry, each input block kept, the output block at the computed value. -/
def dat1 (c : Dev nD) : Dat τ (Elt F) Unit ℕ UU ℕ (pcfg1.at a) c where
  A w := V c (Proc.devRef .tc (Pipeline.arrRef spec1 w))
  after w t := match w with
    | ⟨41, _⟩ => oblk1 V a c t
    | w => iblk1 V a c w t
  Φ _ := iprop(Pipeline.scopedRest spec1 c ∗ Pipeline.prefHeld pre1 c (fun _ => fullShare) a.1)
  q w := Pipeline.shareOf spec1 w
  owed _ := 0

/-- The data's arrays are the entry contents. -/
theorem A_eq1 (c : Dev nD) (w : Fin (pcfg1.at a).W) : (dat1 V a c).A w = V c (Proc.devRef .tc (Pipeline.arrRef spec1 w)) := by
  dsimp only [dat1]

/-- What the body leaves in the output's block. -/
theorem after1_out (c : Dev nD) (t : Fin (pcfg1.at a).N) : (dat1 V a c).after 41 t = oblk1 V a c t := rfl

/-- What the body leaves in an input's block. -/
theorem after1_in (c : Dev nD) (w : Fin 42) (hw : w ≠ 41) (t : Fin (pcfg1.at a).N) : (dat1 V a c).after w t = iblk1 V a c w t := by
  dsimp only [dat1]
  split
  · exact absurd rfl hw
  · rfl

/-- Every window but the last is an input. -/
theorem isIn1 : ∀ w : Fin 42, w ≠ 41 → (spec1 w).isOut = false := by decide

/-- The body finds each input's block in its buffer. -/
theorem before1_in (c : Dev nD) (w : Fin 42) (hw : w ≠ 41) (t : Fin (pcfg1.at a).N) (d) : (dat1 V a c).before w t d = iblk1 V a c w t :=
  ((dat1 V a c).before_in_eq_fetched w (isIn1 w hw) (fun _ => rfl) (fun _ _ _ => rfl)
      (fun t => by rw [after1_in V a c w hw]; unfold Dat.blockOf iblk1; rw [A_eq1]; try rfl) t d).trans
    (by unfold Dat.fetched Dat.blockOf iblk1; rw [A_eq1]; exact (((pcfg1.at a).win w).cut_fill _ _ _ : _))

/-- The second call's body at point `t`, on the buffers the pipeline calls it with. -/
abbrev bodyAt1 (t : Fin (pcfg1.at a).N) : Prog (TpuEff nD τ sig (Elt F) Λ₀ .tc) PUnit :=
  cc1__attn_kernel (grid1.coords t) (Memref.whole main_indices) (Memref.isWhole_whole _) (spec1_0.stage ((pcfg1.at a).slots t 0)) (hstage1_0 (((pcfg1.at a).slots t 0).cast nbuf1_0)) (spec1_1.stage ((pcfg1.at a).slots t 1)) (hstage1_1 (((pcfg1.at a).slots t 1).cast nbuf1_1)) (spec1_2.stage ((pcfg1.at a).slots t 2)) (hstage1_2 (((pcfg1.at a).slots t 2).cast nbuf1_2)) (spec1_3.stage ((pcfg1.at a).slots t 3)) (hstage1_3 (((pcfg1.at a).slots t 3).cast nbuf1_3)) (spec1_4.stage ((pcfg1.at a).slots t 4)) (hstage1_4 (((pcfg1.at a).slots t 4).cast nbuf1_4)) (spec1_5.stage ((pcfg1.at a).slots t 5)) (hstage1_5 (((pcfg1.at a).slots t 5).cast nbuf1_5)) (spec1_6.stage ((pcfg1.at a).slots t 6)) (hstage1_6 (((pcfg1.at a).slots t 6).cast nbuf1_6)) (spec1_7.stage ((pcfg1.at a).slots t 7)) (hstage1_7 (((pcfg1.at a).slots t 7).cast nbuf1_7)) (spec1_8.stage ((pcfg1.at a).slots t 8)) (hstage1_8 (((pcfg1.at a).slots t 8).cast nbuf1_8)) (spec1_9.stage ((pcfg1.at a).slots t 9)) (hstage1_9 (((pcfg1.at a).slots t 9).cast nbuf1_9)) (spec1_10.stage ((pcfg1.at a).slots t 10)) (hstage1_10 (((pcfg1.at a).slots t 10).cast nbuf1_10)) (spec1_11.stage ((pcfg1.at a).slots t 11)) (hstage1_11 (((pcfg1.at a).slots t 11).cast nbuf1_11)) (spec1_12.stage ((pcfg1.at a).slots t 12)) (hstage1_12 (((pcfg1.at a).slots t 12).cast nbuf1_12)) (spec1_13.stage ((pcfg1.at a).slots t 13)) (hstage1_13 (((pcfg1.at a).slots t 13).cast nbuf1_13)) (spec1_14.stage ((pcfg1.at a).slots t 14)) (hstage1_14 (((pcfg1.at a).slots t 14).cast nbuf1_14)) (spec1_15.stage ((pcfg1.at a).slots t 15)) (hstage1_15 (((pcfg1.at a).slots t 15).cast nbuf1_15)) (spec1_16.stage ((pcfg1.at a).slots t 16)) (hstage1_16 (((pcfg1.at a).slots t 16).cast nbuf1_16)) (spec1_17.stage ((pcfg1.at a).slots t 17)) (hstage1_17 (((pcfg1.at a).slots t 17).cast nbuf1_17)) (spec1_18.stage ((pcfg1.at a).slots t 18)) (hstage1_18 (((pcfg1.at a).slots t 18).cast nbuf1_18)) (spec1_19.stage ((pcfg1.at a).slots t 19)) (hstage1_19 (((pcfg1.at a).slots t 19).cast nbuf1_19)) (spec1_20.stage ((pcfg1.at a).slots t 20)) (hstage1_20 (((pcfg1.at a).slots t 20).cast nbuf1_20)) (spec1_21.stage ((pcfg1.at a).slots t 21)) (hstage1_21 (((pcfg1.at a).slots t 21).cast nbuf1_21)) (spec1_22.stage ((pcfg1.at a).slots t 22)) (hstage1_22 (((pcfg1.at a).slots t 22).cast nbuf1_22)) (spec1_23.stage ((pcfg1.at a).slots t 23)) (hstage1_23 (((pcfg1.at a).slots t 23).cast nbuf1_23)) (spec1_24.stage ((pcfg1.at a).slots t 24)) (hstage1_24 (((pcfg1.at a).slots t 24).cast nbuf1_24)) (spec1_25.stage ((pcfg1.at a).slots t 25)) (hstage1_25 (((pcfg1.at a).slots t 25).cast nbuf1_25)) (spec1_26.stage ((pcfg1.at a).slots t 26)) (hstage1_26 (((pcfg1.at a).slots t 26).cast nbuf1_26)) (spec1_27.stage ((pcfg1.at a).slots t 27)) (hstage1_27 (((pcfg1.at a).slots t 27).cast nbuf1_27)) (spec1_28.stage ((pcfg1.at a).slots t 28)) (hstage1_28 (((pcfg1.at a).slots t 28).cast nbuf1_28)) (spec1_29.stage ((pcfg1.at a).slots t 29)) (hstage1_29 (((pcfg1.at a).slots t 29).cast nbuf1_29)) (spec1_30.stage ((pcfg1.at a).slots t 30)) (hstage1_30 (((pcfg1.at a).slots t 30).cast nbuf1_30)) (spec1_31.stage ((pcfg1.at a).slots t 31)) (hstage1_31 (((pcfg1.at a).slots t 31).cast nbuf1_31)) (spec1_32.stage ((pcfg1.at a).slots t 32)) (hstage1_32 (((pcfg1.at a).slots t 32).cast nbuf1_32)) (spec1_33.stage ((pcfg1.at a).slots t 33)) (hstage1_33 (((pcfg1.at a).slots t 33).cast nbuf1_33)) (spec1_34.stage ((pcfg1.at a).slots t 34)) (hstage1_34 (((pcfg1.at a).slots t 34).cast nbuf1_34)) (spec1_35.stage ((pcfg1.at a).slots t 35)) (hstage1_35 (((pcfg1.at a).slots t 35).cast nbuf1_35)) (spec1_36.stage ((pcfg1.at a).slots t 36)) (hstage1_36 (((pcfg1.at a).slots t 36).cast nbuf1_36)) (spec1_37.stage ((pcfg1.at a).slots t 37)) (hstage1_37 (((pcfg1.at a).slots t 37).cast nbuf1_37)) (spec1_38.stage ((pcfg1.at a).slots t 38)) (hstage1_38 (((pcfg1.at a).slots t 38).cast nbuf1_38)) (spec1_39.stage ((pcfg1.at a).slots t 39)) (hstage1_39 (((pcfg1.at a).slots t 39).cast nbuf1_39)) (spec1_40.stage ((pcfg1.at a).slots t 40)) (hstage1_40 (((pcfg1.at a).slots t 40).cast nbuf1_40)) (spec1_41.stage ((pcfg1.at a).slots t 41)) (hstage1_41 (((pcfg1.at a).slots t 41).cast nbuf1_41))

/-- The body table's row at point `t`. -/
theorem defs_row1 (t : Fin (pcfg1.at a).N) :
    defs₀ (F := F) .tc (pcfg1.at a).body ((pcfg1.at a).bodyArgs t ((pcfg1.at a).slots t)) = bodyAt1 a t := by
  unfold defs₀; rw [Defs.onTc_tc]

set_option maxRecDepth 65536 in
set_option maxHeartbeats 2000000 in
/-- The library's obligation on the second call's body. -/
theorem body_obligation1 (c : Dev nD) : BodyObligation (dat1 (F := F) V a c) (defs₀ (F := F)) Variants.none () Set.univ := fun t => by
  have hb : ∀ w : Fin 42, w ≠ 41 → ∀ d, (dat1 V a c).before w t d = iblk1 V a c w t := fun w hw d => before1_in V a c w hw t d
  rw [bigSep_W1, bigSep_W1, defs_row1]
  simp only [hb 0 (by decide), hb 1 (by decide), hb 2 (by decide), hb 3 (by decide), hb 4 (by decide), hb 5 (by decide), hb 6 (by decide), hb 7 (by decide), hb 8 (by decide), hb 9 (by decide), hb 10 (by decide), hb 11 (by decide), hb 12 (by decide), hb 13 (by decide), hb 14 (by decide), hb 15 (by decide), hb 16 (by decide), hb 17 (by decide), hb 18 (by decide), hb 19 (by decide), hb 20 (by decide), hb 21 (by decide), hb 22 (by decide), hb 23 (by decide), hb 24 (by decide), hb 25 (by decide), hb 26 (by decide), hb 27 (by decide), hb 28 (by decide), hb 29 (by decide), hb 30 (by decide), hb 31 (by decide), hb 32 (by decide), hb 33 (by decide), hb 34 (by decide), hb 35 (by decide), hb 36 (by decide), hb 37 (by decide), hb 38 (by decide), hb 39 (by decide), hb 40 (by decide), after1_in V a c 0 (by decide), after1_in V a c 1 (by decide), after1_in V a c 2 (by decide), after1_in V a c 3 (by decide), after1_in V a c 4 (by decide), after1_in V a c 5 (by decide), after1_in V a c 6 (by decide), after1_in V a c 7 (by decide), after1_in V a c 8 (by decide), after1_in V a c 9 (by decide), after1_in V a c 10 (by decide), after1_in V a c 11 (by decide), after1_in V a c 12 (by decide), after1_in V a c 13 (by decide), after1_in V a c 14 (by decide), after1_in V a c 15 (by decide), after1_in V a c 16 (by decide), after1_in V a c 17 (by decide), after1_in V a c 18 (by decide), after1_in V a c 19 (by decide), after1_in V a c 20 (by decide), after1_in V a c 21 (by decide), after1_in V a c 22 (by decide), after1_in V a c 23 (by decide), after1_in V a c 24 (by decide), after1_in V a c 25 (by decide), after1_in V a c 26 (by decide), after1_in V a c 27 (by decide), after1_in V a c 28 (by decide), after1_in V a c 29 (by decide), after1_in V a c 30 (by decide), after1_in V a c 31 (by decide), after1_in V a c 32 (by decide), after1_in V a c 33 (by decide), after1_in V a c 34 (by decide), after1_in V a c 35 (by decide), after1_in V a c 36 (by decide), after1_in V a c 37 (by decide), after1_in V a c 38 (by decide), after1_in V a c 39 (by decide), after1_in V a c 40 (by decide), after1_out]
  rw [show (dat1 V a c).Φ t.succ = (dat1 V a c).Φ t.castSucc from rfl,
    show (dat1 V a c).owesAt () t.succ = (dat1 V a c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩⟩
  unfold bodyAt1
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 V a c 0 t) (iblk1 V a c 1 t) (iblk1 V a c 2 t)
    (kvs V a c t) (iblk1 V a c 31 t) (iblk1 V a c 32 t) (iblk1 V a c 33 t) (iblk1 V a c 34 t) (iblk1 V a c 35 t) (iblk1 V a c 36 t)
    (iblk1 V a c 37 t) (iblk1 V a c 38 t) (iblk1 V a c 39 t) (iblk1 V a c 40 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexists _; iexact H41
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  iexact H41

end Cert.KernelIdeal.Run
end
-- ==== Proof.KernelIdeal.Table.lean ====
module

public import proofs.«01_k».proof.Proof.Gen.KernelIdeal

@[expose] public section

noncomputable section

namespace Cert.KernelIdeal.Run

open Cert.KernelIdeal Cert.KernelIdeal.Gen
open Idealize.ShloMosaic
open Idealize.ShloMosaic.TcCoe

variable {F : FTy → Type} [FloatOps F]

/-- The row of windows a table word names: the word divided by seven, as the index maps compute it. -/
def rowWord (v : BitVec 32) : BitVec 32 :=
  Scalar.select (Scalar.andi
      (Scalar.cmpi .ne (Scalar.subi (Scalar.extui (Scalar.cmpi .sgt v 0#32)) (Scalar.extui (Scalar.cmpi .slt v 0#32)))
        (Scalar.subi (Scalar.extui (Scalar.cmpi .sgt 7#32 0#32)) (Scalar.extui (Scalar.cmpi .slt 7#32 0#32) : BitVec 32)))
      (Scalar.cmpi .ne (Scalar.remsi v 7#32) 0#32))
    (Scalar.subi (Scalar.divsi v 7#32) 1#32) (Scalar.divsi v 7#32)

/-- The column of windows a table word names: its remainder by seven, as the index maps compute it. -/
def colWord (v : BitVec 32) : BitVec 32 :=
  let d : BitVec 32 := Scalar.select (Scalar.cmpi .eq 7#32 0#32) 1#32 7#32
  let r : BitVec 32 := Scalar.remsi v d
  Scalar.select (Scalar.andi (Scalar.xori (Scalar.cmpi .slt r 0#32) (Scalar.cmpi .slt d 0#32)) (Scalar.cmpi .ne r 0#32)) (Scalar.addi r d) r

/-- A word below 49 names the row of its quotient by seven. -/
theorem rowWord_ofNat : ∀ k : Fin 49, (rowWord (BitVec.ofNat 32 k.val)).toNat = k.val / 7 := by decide

/-- A word below 49 names the column of its remainder by seven. -/
theorem colWord_ofNat : ∀ k : Fin 49, (colWord (BitVec.ofNat 32 k.val)).toNat = k.val % 7 := by decide

/-- The block a table word `v` names, for image `n`. -/
def kvIx (n : ℕ) (v : BitVec 32) : Fin 6 → ℕ := ![(BitVec.ofNat 32 n).toNat, (rowWord v).toNat, 0, (colWord v).toNat, 0, 0]

/-- For a word below 49 the block is the window of that number. -/
theorem kvIx_ofNat (n : Fin 2) (k : Fin 49) : kvIx n.val (BitVec.ofNat 32 k.val) = ![n.val, k.val / 7, 0, k.val % 7, 0, 0] := by
  unfold kvIx
  rw [rowWord_ofNat, colWord_ofNat]
  fin_cases n <;> rfl

/-- A block named by a word below 49 lies inside the pooled array. -/
theorem kvIx_inb (n : Fin 2) (v : BitVec 32) (k : Fin 49) (hv : v = BitVec.ofNat 32 k.val) :
    ∀ a, (kvIx n.val v a + 1) * S1x1x4x1x4x192.size a ≤ S2x7x4x7x4x192.size a := by
  subst hv
  rw [kvIx_ofNat]
  have hn := n.isLt
  have hk := k.isLt
  intro a
  fin_cases a
  · show (n.val + 1) * 1 ≤ 2; omega
  · show (k.val / 7 + 1) * 1 ≤ 7; omega
  · show (0 + 1) * 4 ≤ 4; omega
  · show (k.val % 7 + 1) * 1 ≤ 7; omega
  · show (0 + 1) * 4 ≤ 4; omega
  · show (0 + 1) * 192 ≤ 192; omega

/-- Tables whose words all lie below 49 are admissible: every block they name is inside the pooled array. -/
theorem ok1_of_range (pf : pre1.Contents (Elt F)) (h : ∀ j, ∃ k : Fin 49, pf 0 j = BitVec.ofNat 32 k.val) : ok1 pf := by
  have key : ∀ (i : grid1.Coords) (j : S2x49x4.Idx) (ix : Fin 6 → ℕ), ix = kvIx (i 0).val (pf 0 j) →
      ∃ h : (∀ a, (ix a + 1) * S1x1x4x1x4x192.size a ≤ S2x7x4x7x4x192.size a),
        EltTy.bits .f32 = 32 ∨ (Rect.block (s := S2x7x4x7x4x192) S1x1x4x1x4x192.size ix h).WholeWords (EltTy.packing .f32) := by
    intro i j ix hix
    obtain ⟨k, hk⟩ := h j
    exact ⟨hix ▸ kvIx_inb (i 0) (pf 0 j) k hk, .inl rfl⟩
  unfold ok1
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    exact fun i => key i _ _ rfl

/-- The positions a top-four gives along rows of 49 are words below 49. -/
theorem topK_range (gt : F .f32 → F .f32 → BitVec 1) (x : FVec F S2x49x49 .f32) (h : S2x49x49.Slices (fun _ => 0) S2x49x4) (j : S2x49x4.Idx) :
    ∃ k : Fin 49, (Host.topK S2x49x4 2 gt x h).2 j = BitVec.ofNat 32 k.val := ⟨_, rfl⟩

end Cert.KernelIdeal.Run
end
-- ==== Proof.KernelIdeal.Run.lean ====
module

public import proofs.«01_k».proof.Proof.KernelIdeal.Region1
public import proofs.«01_k».proof.Proof.KernelIdeal.Table
public import proofs.«01_k».proof.Proof.Gen.KernelIdeal.Regions
public import Idealize.ShloMosaic.Lib.Pipeline.FrameTail
public import Idealize.ShloMosaic.Lib.Pipeline.RegionsLoop
public import Idealize.ShloMosaic.Lib.StableHlo.Run

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg cellOf)

variable {F : FTy → Type} [FloatOps F]

local notation "𝕄" => MT nD τ sig Unit (Elt F) ℕ UU ℕ

variable (m : (ℓ : Loc nD τ sig) → Buf (Elt F) ℓ)

/-- What the calls leave, the second call's result not yet known. -/
def outsA : Outs (F := F) := fun _ r c => Pipeline.afterRegion (dat0 (V1 m) c) (V1 m c) (Proc.devRef .tc r)

set_option maxRecDepth 8192 in
set_option maxHeartbeats 2000000 in
/-- The host lines between the calls put words below 49 in the table. -/
theorem table_host (V : Valuation τ sig (Elt F)) (j : S2x49x4.Idx) :
    ∃ k : Fin 49, (StableHlo.after hostOps1 V (Proc.devRef .tc main_indices) : Vec F S2x49x4 .i32) j = BitVec.ofNat 32 k.val := by
  simp only [hostOps1]
  after_results_simp
  exact topK_range _ _ _ _

/-- The table the second call is entered with has words below 49. -/
theorem table_range (c : Dev nD) (j : S2x49x4.Idx) :
    ∃ k : Fin 49, (V7 m (outsA m) c main_indices : Vec F S2x49x4 .i32) j = BitVec.ofNat 32 k.val := by
  rw [V7_of m (outsA m) c main_indices (by decide), V6_of m (outsA m) c main_indices (by decide), V5_of m (outsA m) c main_indices (by decide),
    V4_of m (outsA m) c main_indices (by decide)]
  exact table_host _ j

/-- The tables' contents at the second call's entry. -/
def tbl : (pcfg1 (F := F)).pre.Contents (Elt F) := fun k => V7 m (outsA m) (0 : Dev nD) (Proc.devRef .tc (pre1.ref k))

/-- The tables are admissible. -/
def adm1 : (pcfg1 (F := F)).Adm := ⟨tbl m, ok1_of_range _ fun j => table_range m 0 j⟩

/-- Both calls' tables. -/
def adm : (p : Fin 2) → (pcfgs (F := F) p).Adm
  | 0 => ⟨Pipeline.Prefetch.Contents.none, trivial⟩
  | 1 => adm1 m
  | ⟨_ + 2, h⟩ => absurd h (Nat.not_lt.2 (Nat.le_add_left _ _))

/-- What the second call leaves in its result. -/
def res1 (c : Dev nD) : Buf (Elt F) ((c.tc : Thread nD τ).loc main_v57) :=
  (dat1 (V7 m (outsA m)) (adm1 m) c).arrAt 41 (pcfg1.at (adm1 m)).N

/-- What the two calls leave. -/
def outs : Outs (F := F) := fun J r c => match J with
  | 8 => Function.update (V7 m (outsA m) c) (Proc.devRef .tc main_v57) (res1 m c) (Proc.devRef .tc r)
  | J => outsA m J r c

/-- Both calls' data. -/
def dats : (p : Fin 2) → (c : Dev nD) → Dat τ (Elt F) Unit ℕ UU ℕ (Pipeline.pin (pcfgs (F := F)) (adm m) p) c
  | 0 => dat0 (V1 m)
  | 1 => dat1 (V7 m (outsA m)) (adm1 m)
  | ⟨_ + 2, h⟩ => absurd h (Nat.not_lt.2 (Nat.le_add_left _ _))

/-- No level is assigned. -/
def lev : GSem nD τ sig → Finset Unit := fun _ => ∅

/-- What rides beside the buffers: the core owes nothing. -/
def rest (c : Dev nD) : sProp 𝕄 := iprop(∃ W, owes (c.tc : Thread nD τ) (0 : CellTallies nD τ sig Unit) W)

/-- After the first call only its two results have changed. -/
theorem V2_eq (c : Dev nD) (b : Ref sig .tc) :
    V2 m (outs m) c (Proc.devRef .tc b) = Pipeline.afterRegion (dat0 (V1 m) c) (V1 m c) (Proc.devRef .tc b) := by
  by_cases h1 : b = main_v3_1
  · subst h1; exact Function.update_self ..
  by_cases h0 : b = main_v3_0
  · subst h0; exact (Function.update_of_ne (by decide) _ _).trans (Function.update_self ..)
  rw [V2_of m (outs m) c b (by simp [h0, h1])]
  refine (Pipeline.afterRegion_keeps (dat0 (V1 m) c) (V1 m c) (launch0 (F := F)).win.arr_inj (fun w => A_eq0 (V1 m) c w) b ?_).symm
  have : ∀ w : Fin 5, (spec0 w).isOut = true → Pipeline.arrRef spec0 w = main_v3_0 ∨ Pipeline.arrRef spec0 w = main_v3_1 := by decide
  intro w hw
  by_contra hc
  rcases this w (by simpa using hc) with h | h
  · exact h0 (hw.symm.trans h)
  · exact h1 (hw.symm.trans h)

set_option backward.isDefEq.respectTransparency.types false in
/-- The first call as a segment. -/
def reg0 : RegionSeg (pcfgs (F := F)) (adm m) (dats m) () defs₀ Variants.none lev (fun _ _ => (0 : ℕ)) 0 where
  win := (launch0 (F := F)).win.to₀
  block_pos := (launch0 (F := F)).block_pos
  stage_whole := (launch0 (F := F)).stage_whole
  K := PEmpty
  osem := fun k => k.elim
  ho := Pipeline.OwnSemFacts.none _
  hbody := fun c => (body_obligation0 (V1 m) c).loose
  hwaits := Pipeline.hwaits_of_owed_zero (pcfgs (F := F)) (adm m) (dats m) () lev (fun _ _ => (0 : ℕ)) 0 (fun _ _ => rfl)
  pre := fun c => iprop(StableHlo.held (c.tc : Thread nD τ) (Pipeline.ucRefs τ sig) (V1 m c) ∗ rest c)
  post := fun c => iprop(StableHlo.held (c.tc : Thread nD τ) (Pipeline.ucRefs τ sig) (V2 m (outs m) c) ∗ rest c)
  X := fun _ => iprop(emp)
  Y := fun _ => iprop(emp)
  Z := fun c => Pipeline.unscopedRest (Ix := Unit) (Name := ℕ) (U := UU) (Lvl := ℕ) spec0 c (fun b => V1 m c (Proc.devRef .tc b))
  hentry := fun c => by
    rw [Pipeline.ownSems0_none,
      show StableHlo.held (c.tc : Thread nD τ) (Pipeline.ucRefs τ sig) (V1 m c) = unscopedBufs c (fun b => V1 m c (Proc.devRef .tc b))
        from (Pipeline.unscopedBufs_held (Ix := Unit) (Name := ℕ) (U := UU) (Lvl := ℕ) c (V1 m c)).symm]
    have hsplit := Pipeline.arrays_of_unscopedBufs (p := 0) (pcfgs (F := F)) (adm m) (dats m) (launch0 (F := F)).win (launch0 (F := F)).arr_whole c
      ((dats m 0 c).share_full fun _ => rfl) (fun b => V1 m c (Proc.devRef .tc b)) (fun w => A_eq0 (V1 m) c w)
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold rest
      icases HO with ⟨%W, HO⟩
      unfold Dat.owesAt Pipeline.owesWithin
      iexists W; isplitr; · ipureintro; exact fun _ _ => Or.inl trivial
      iexact HO
    isplitr; · iempintro
    iexact Hrest
  hin := fun c => by
    show _ ⊢ (Pipeline.scopedRest spec0 c : sProp 𝕄)
    iintro ⟨-, -, Hr⟩
    iexact Hr
  hout := fun c => by
    rw [Pipeline.ownSems0_none]
    show (Pipeline.scopedRest spec0 c : sProp 𝕄) ⊢ _
    iintro Hr
    isplitr; · iempintro
    isplitr; · iempintro
    iexact Hr
  hexit := fun c => by
    have hjoin := Pipeline.unscopedBufs_of_arrays (p := 0) (pcfgs (F := F)) (adm m) (Ix := Unit) (Name := ℕ) (U := UU) (Lvl := ℕ)
      (launch0 (F := F)).win (launch0 (F := F)).arr_whole c (dats m) ((dats m 0 c).share_full fun _ => rfl)
      (fun b => V1 m c (Proc.devRef .tc b)) (fun b => V2 m (outs m) c (Proc.devRef .tc b)) ((dats m 0 c).arrAt · cfg0.N)
      (fun w => ((V2_eq m c _).trans (Pipeline.afterRegion_arr (dat0 (V1 m) c) (V1 m c) (launch0 (F := F)).win.arr_inj w)).symm)
      (fun b hb => (V2_eq m c b).trans (Pipeline.afterRegion_of_not_arr (dat0 (V1 m) c) (V1 m c)
        fun w h => hb (h ▸ Finset.mem_image.mpr ⟨w, Finset.mem_univ _, rfl⟩)))
    rw [show StableHlo.held (c.tc : Thread nD τ) (Pipeline.ucRefs τ sig) (V2 m (outs m) c) = unscopedBufs c (fun b => V2 m (outs m) c (Proc.devRef .tc b))
      from (Pipeline.unscopedBufs_held (Ix := Unit) (Name := ℕ) (U := UU) (Lvl := ℕ) c (V2 m (outs m) c)).symm]
    iintro ⟨Ha, HO, -, Hrest⟩
    imodintro
    isplitl [Ha Hrest]
    · iapply hjoin; isplitl [Ha] <;> iassumption
    unfold Dat.owesAt Pipeline.owesWithin rest
    icases HO with ⟨%W, -, HO⟩; iexists W; iexact HO

/-- The second call's result at its end. -/
theorem V8_res (c : Dev nD) : V8 m (outs m) c (Proc.devRef .tc main_v57) = res1 m c := by
  unfold V8
  rw [Function.update_self]
  show Function.update (V7 m (outsA m) c) (Proc.devRef .tc main_v57) (res1 m c) (Proc.devRef .tc main_v57) = _
  rw [Function.update_self]

/-- After the second call only its result has changed. -/
theorem V8_eq (c : Dev nD) (w : Fin 42) :
    (dat1 (V7 m (outsA m)) (adm1 m) c).arrAt w (pcfg1.at (adm1 m)).N = V8 m (outs m) c (Proc.devRef .tc (Pipeline.arrRef spec1 w)) := by
  by_cases hw : w = 41
  · subst hw
    exact (V8_res m c).symm
  · have hne : ∀ w : Fin 42, w ≠ 41 → Pipeline.arrRef spec1 w ≠ main_v57 := by decide
    have h := (dat1 (V7 m (outsA m)) (adm1 m) c).arrAt_in w (isIn1 w hw) (pcfg1.at (adm1 m)).N
    refine h.trans ?_
    rw [A_eq1]
    exact (Function.update_of_ne (fun h => hne w hw (Proc.devRef_injective _ h)) _ _).symm

/-- The table's contents on any core. -/
theorem tbl_eq (c : Dev nD) : (fun k => V7 m (outsA m) c (Proc.devRef .tc (pre1.ref k))) = tbl (F := F) m := by
  obtain rfl : c = (0 : Dev nD) := Subsingleton.elim _ _
  rfl

set_option maxHeartbeats 4000000 in
set_option backward.isDefEq.respectTransparency.types false in
/-- The second call as a segment. -/
def reg1 : RegionSeg (pcfgs (F := F)) (adm m) (dats m) () defs₀ Variants.none lev (fun _ _ => (0 : ℕ)) 1 where
  win := (launch₀1 (F := F)).win
  block_pos := (launch₀1 (F := F)).block_pos
  stage_whole := (launch₀1 (F := F)).stage_whole
  K := PEmpty
  osem := fun k => k.elim
  ho := Pipeline.OwnSemFacts.none _
  hbody := fun c => (body_obligation1 (V7 m (outsA m)) (adm1 m) c).loose
  hwaits := Pipeline.hwaits_of_owed_zero (pcfgs (F := F)) (adm m) (dats m) () lev (fun _ _ => (0 : ℕ)) 1 (fun _ _ => rfl)
  pre := fun c => iprop(StableHlo.held (c.tc : Thread nD τ) (Pipeline.ucRefs τ sig) (V7 m (outsA m) c) ∗ rest c)
  post := fun c => iprop(StableHlo.held (c.tc : Thread nD τ) (Pipeline.ucRefs τ sig) (V8 m (outs m) c) ∗ rest c)
  X := fun _ => iprop(emp)
  Y := fun c => Pipeline.prefHeld pre1 c (fun _ => fullShare) (tbl m)
  Z := fun c => Pipeline.unscopedRestP (Ix := Unit) (Name := ℕ) (U := UU) (Lvl := ℕ) pre1 spec1 c (fun b => V7 m (outsA m) c (Proc.devRef .tc b))
  hentry := fun c => by
    rw [Pipeline.ownSems0_none,
      show StableHlo.held (c.tc : Thread nD τ) (Pipeline.ucRefs τ sig) (V7 m (outsA m) c) = unscopedBufs c (fun b => V7 m (outsA m) c (Proc.devRef .tc b))
        from (Pipeline.unscopedBufs_held (Ix := Unit) (Name := ℕ) (U := UU) (Lvl := ℕ) c (V7 m (outsA m) c)).symm]
    have hsplit := Pipeline.arrays_of_unscopedBufs_shared (p := 1) (pcfgs (F := F)) (adm m) (dats m) (launch₀1 (F := F)).win sharedIn1
      (launch₀1 (F := F)).arr_whole c (fun _ _ => rfl) (fun b => V7 m (outsA m) c (Proc.devRef .tc b)) (fun w => A_eq1 (V7 m (outsA m)) (adm1 m) c w)
    have hrest := Entails.of_eq (Pipeline.unscopedRest_split (Ix := Unit) (Name := ℕ) (U := UU) (Lvl := ℕ) preFacts1 c
      (fun b => V7 m (outsA m) c (Proc.devRef .tc b)))
    rw [tbl_eq m c] at hrest
    iintro ⟨⟨Hub, HO⟩, -, -⟩
    ihave H := hsplit $$ Hub
    icases H with ⟨Ha, Hrest⟩
    ihave H := hrest $$ Hrest
    icases H with ⟨Ht, Hrest⟩
    imodintro
    isplitl [Ha]; · iexact Ha
    isplitl [Ht]; · iexact Ht
    isplitl [HO]
    · unfold rest
      icases HO with ⟨%W, HO⟩
      unfold Dat.owesAt Pipeline.owesWithin
      iexists W; isplitr; · ipureintro; exact fun _ _ => Or.inl trivial
      iexact HO
    isplitr; · iempintro
    iexact Hrest
  hin := fun c => by
    show _ ⊢ (iprop(Pipeline.scopedRest spec1 c ∗ Pipeline.prefHeld pre1 c (fun _ => fullShare) (tbl m)) : sProp 𝕄)
    iintro ⟨-, Ht, Hr⟩
    isplitl [Hr]; · iexact Hr
    iexact Ht
  hout := fun c => by
    rw [Pipeline.ownSems0_none]
    show (iprop(Pipeline.scopedRest spec1 c ∗ Pipeline.prefHeld pre1 c (fun _ => fullShare) (tbl m)) : sProp 𝕄) ⊢ _
    iintro ⟨Hr, Ht⟩
    isplitl [Ht]; · iexact Ht
    isplitr; · iempintro
    iexact Hr
  hexit := fun c => by
    have hjoin := Pipeline.unscopedBufs_of_arrays_shared (p := 1) (pcfgs (F := F)) (adm m) (Ix := Unit) (Name := ℕ) (U := UU) (Lvl := ℕ)
      (launch₀1 (F := F)).win sharedIn1 (launch₀1 (F := F)).arr_whole c (dats m) (fun _ _ => rfl)
      (fun b => V7 m (outsA m) c (Proc.devRef .tc b)) (fun b => V8 m (outs m) c (Proc.devRef .tc b)) ((dats m 1 c).arrAt · (pcfg1.at (adm1 m)).N)
      (fun w => V8_eq m c w)
      (fun b hb => Function.update_of_ne (fun h => hb (by
        rw [Proc.devRef_injective _ h]; exact Finset.mem_image.mpr ⟨(41 : Fin 42), Finset.mem_univ _, rfl⟩)) _ _)
    have hrest := Entails.of_eq (Pipeline.unscopedRest_split (Ix := Unit) (Name := ℕ) (U := UU) (Lvl := ℕ) preFacts1 c
      (fun b => V7 m (outsA m) c (Proc.devRef .tc b))).symm
    rw [tbl_eq m c] at hrest
    rw [show StableHlo.held (c.tc : Thread nD τ) (Pipeline.ucRefs τ sig) (V8 m (outs m) c) = unscopedBufs c (fun b => V8 m (outs m) c (Proc.devRef .tc b))
      from (Pipeline.unscopedBufs_held (Ix := Unit) (Name := ℕ) (U := UU) (Lvl := ℕ) c (V8 m (outs m) c)).symm]
    iintro ⟨Ha, HO, Ht, Hrest⟩
    imodintro
    isplitl [Ha Hrest Ht]
    · iapply hjoin
      isplitl [Ha]; · iexact Ha
      iapply hrest
      isplitl [Ht]; · iexact Ht
      iexact Hrest
    unfold Dat.owesAt Pipeline.owesWithin rest
    icases HO with ⟨%W, -, HO⟩; iexists W; iexact HO

/-- The launch leaves every core owing nothing. -/
theorem init_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ emp)) ∗ levAts lev (fun _ _ => (0 : ℕ)))
      ⊢ (|={Set.univ}=> bigSep Finset.univ (rest (F := F)) : sProp 𝕄) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ emp))
      ⊢ (bigSep Finset.univ (rest (F := F)) : sProp 𝕄) := bigSep_mono fun c _ => by
    show (iprop(unscopedSems0 c ∗ owes (c : Thread nD τ) ((0 : Dev nD → CellTallies nD τ sig Unit) c) ∅
        ∗ Pipeline.launchCred (0 : Dev nD → CellTallies nD τ sig Unit) c ∗ prngReg c (ρ c) ∗ emp) : sProp 𝕄) ⊢ iprop(∃ W, owes (c.tc : Thread nD τ) (0 : CellTallies nD τ sig Unit) W)
    iintro ⟨-, HO, -⟩
    iexists ∅
    iexact HO
  iintro ⟨H, -⟩
  imodintro
  iapply h
  iexact H

set_option backward.isDefEq.respectTransparency.types false in
/-- Every run of the program ends with the arguments as launched, every semaphore at zero and the result at what the second call leaves. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v57) = res1 m c)
      ∧ r.2.sem = fun _ => 0) := by
  refine Pipeline.θ_run_regions_kit_dev_sems (pcfgs (F := F)) (adm m) (dats m) () (cellOf_inj (adm m)) Idealize.ShloMosaic.emb₁ defs₀ Variants.none lev
    (fun _ _ => (0 : ℕ)) m ρ main
    (segs m (outs m) Variants.none lev (fun _ _ => (0 : ℕ)) (fun _ => rest) () (adm m) (dats m) (reg0 m) (reg1 m))
    (fun c Q => by
      rewrite [main_chain c, Seg.run_eq_chain,
        show (segs m (outs m) Variants.none lev (fun _ _ => (0 : ℕ)) (fun _ => rest) () (adm m) (dats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU _ : sProp 𝕄) ⊢ BI.own (Idealize.ShloMosaic.emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V8 m (outs m) c))
    (hch := fun c => ⟨.rfl, .rfl, .rfl, .rfl, .rfl, .rfl, .rfl, .rfl, .rfl⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_v57) = res1 m c)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ emp)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init_rest (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      have hm : ∀ r : Ref sig .tc, r.isScoped = false → (Proc.devRef (τ := τ) .tc r) ∈ Pipeline.ucRefs τ sig := fun r hr =>
        Finset.mem_filter.mpr ⟨StableHlo.devRef_mem_tcRefs r, by simpa using hr⟩
      exact ⟨(h _ (hm main_arg0 (by decide))).trans (V8_main_arg0 m (outs m) c), (h _ (hm main_arg1 (by decide))).trans (V8_main_arg1 m (outs m) c),
        (h _ (hm main_arg2 (by decide))).trans (V8_main_arg2 m (outs m) c), (h _ (hm main_arg3 (by decide))).trans (V8_main_arg3 m (outs m) c),
        (h _ (hm main_arg4 (by decide))).trans (V8_main_arg4 m (outs m) c), (h _ (hm main_arg5 (by decide))).trans (V8_main_arg5 m (outs m) c),
        (h _ (hm main_v57 (by decide))).trans (V8_eq m c 41).symm⟩
    · iexact HSI

end Cert.KernelIdeal.Run
end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Kernel.Run
public import proofs.«01_k».proof.Proof.KernelIdeal.Run

/-!
  The three programs run, keep their arguments and leave every counter at zero.
-/

@[expose] public section

noncomputable section

namespace Cert.Proof

open Idealize.ShloMosaic

/-- The side conditions of the precondition's own operations. -/
instance preFacts : Cert.Pre_usual_inputs.Facts where
  bcast_S_S2x96x224x224 := by decide
  reducesTo_S2x96x224x224_S_d0_1_2_3 := by decide
  h_S_ := by decide
  slices_S96x288_S96x192_0_0 := by decide
  bcast_S_S96x192 := by decide
  reducesTo_S96x192_S_d0_1 := by decide
  slices_S288_S192_0 := by decide
  bcast_S_S192 := by decide
  reducesTo_S192_S_d0 := by decide
  slices_S288_S96_192 := by decide
  bcast_S_S96 := by decide
  reducesTo_S96_S_d0 := by decide

/-- The kernel at machine words. -/
theorem frame_P : Cert.quiescent_Kernel := fun m ρ _ =>
  (θ_run Cert.Kernel.defs _ _).mono (fun _ h => ⟨fun c => ⟨(h.1 c).1, (h.1 c).2.1, (h.1 c).2.2.1, (h.1 c).2.2.2.1, (h.1 c).2.2.2.2.1, (h.1 c).2.2.2.2.2.1⟩, h.2⟩)
    (Cert.Kernel.Run.run (F := Bits) m ρ)

/-- The kernel at extended reals. -/
theorem frame_PI : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1, (h.1 c).2.2.2.2.2.1⟩, h.2⟩)
    (Cert.KernelIdeal.Run.run (F := Ideal) m ρ)

/-- The same under the precondition, which the run does not use. -/
theorem frame_PI_pre : Cert.quiescent_KernelIdeal_pre_usual_inputs := fun m ρ _ =>
  (θ_run Cert.KernelIdeal.defs _ _).mono (fun _ h => ⟨fun c => ⟨(h.1 c).1, (h.1 c).2.1, (h.1 c).2.2.1, (h.1 c).2.2.2.1, (h.1 c).2.2.2.2.1, (h.1 c).2.2.2.2.2.1⟩, h.2⟩)
    (Cert.KernelIdeal.Run.run (F := Ideal) m ρ)

/-- The reference at extended reals; it declares no counter. -/
theorem frame_RI : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition. -/
theorem frame_RI_pre : Cert.quiescent_ReferenceIdeal_pre_usual_inputs := fun m ρ _ => frame_RI m ρ trivial

end Cert.Proof

end
-- ==== Proof.Value.Strip.lean ====
/- The second call's body, one window of the strip at a time: a window's attention named stage by stage, and the output
   block as the seven windows one after another. -/
module

public import proofs.«01_k».proof.Proof.KernelIdeal.Block1
public import Idealize.ShloMosaic.Lib.Pointwise

@[expose] public section

noncomputable section

namespace Cert.Value

open Cert.KernelIdeal Cert.KernelIdeal.Gen
open Idealize.ShloMosaic

/-- Sixty-four rows stacked eight times, one copy per head. -/
def rep (x : FVec Ideal S64x96 .f32) : FVec Ideal S512x96 .f32 :=
  concatenate S512x96 0 [⟨S64x96, x⟩, ⟨S64x96, x⟩, ⟨S64x96, x⟩, ⟨S64x96, x⟩, ⟨S64x96, x⟩, ⟨S64x96, x⟩, ⟨S64x96, x⟩, ⟨S64x96, x⟩]
    concatenates_S64x96_S64x96_S64x96_S64x96_S64x96_S64x96_S64x96_S64x96_S512x96_d0

/-- The scores of all heads side by side. -/
def scores (q : FVec Ideal S1024x96 .f32) (kv : FVec Ideal S64x192 .f32) (m : FVec Ideal S512x96 .f32) : FVec Ideal S1024x512 .f32 :=
  matmul dot_S1024x96_S512x96_S1024x512_1_1_0_0_n_n none q
    (mulf (rep (extractStridedSlice S64x96 ![0, 0] kv slices_S64x192_o0_0_S64x96)) m) (constant S1024x512 .f32 0x00000000#32)

/-- The exponentials of the scores, the greatest score of the row taken off. -/
def expo (s : FVec Ideal S1024x512 .f32) : FVec Ideal S1024x512 .f32 :=
  exp (subf s (broadcastTo S1024x512
    (shapeCast S1024x1 (multiReduction .maximumf [1] S1024 s 0xFF800000#32 reduces_S1024x512_S1024 (.inl rfl) rfl) shapeCasts_S1024_S1024x1)
    broadcasts_S1024x1_S1024x512))

/-- The attention of one window from its exponentials: the weighted values times the reciprocal of each head's sum. -/
def att (e : FVec Ideal S1024x512 .f32) (kv : FVec Ideal S64x192 .f32) (m : FVec Ideal S512x96 .f32) (g : FVec Ideal S512x8 .f32)
    (h : FVec Ideal S8x96 .f32) : FVec Ideal S1024x96 .f32 :=
  mulf
    (matmul dot_S1024x512_S512x96_S1024x96_1_0_0_1_n_n none e
      (mulf (rep (extractStridedSlice S64x96 ![0, 96] kv slices_S64x192_o0_96_S64x96)) m) (constant S1024x96 .f32 0x00000000#32))
    (matmul dot_S1024x8_S8x96_S1024x96_1_0_0_1_n_n none
      (divf (broadcast S1024x8 (Scalar.ofBits .f32 0x3F800000#32))
        (matmul dot_S1024x512_S512x8_S1024x8_1_0_0_1_n_n none e (shapeCast S512x8 g shapeCasts_S512x8_S512x8)
          (constant S1024x8 .f32 0x00000000#32)))
      (shapeCast S8x96 h shapeCasts_S8x96_S8x96) (constant S1024x96 .f32 0x00000000#32))

/-- The output projection of one window. -/
def proj (z : FVec Ideal S1024x96 .f32) (wo : FVec Ideal S96x96 .f32) (bo : FVec Ideal S1x96 .f32) : FVec Ideal S32x32x96 .f32 :=
  shapeCast S32x32x96
    (addf (matmul dot_S1024x96_S96x96_S1024x96_1_0_0_1_n_n none z wo (constant S1024x96 .f32 0x00000000#32))
      (broadcastTo S1024x96 (shapeCast S1x96 bo shapeCasts_S1x96_S1x96) broadcasts_S1x96_S1024x96))
    shapeCasts_S1024x96_S32x32x96

/-- One window: attention, the convolution added, projected. -/
def strip (q : FVec Ideal S32x1x32x96 .f32) (l : FVec Ideal S32x32x96 .f32) (m : FVec Ideal S512x96 .f32)
    (k0 k1 k2 k3 : FVec Ideal S1x1x4x1x4x192 .f32) (wo : FVec Ideal S96x96 .f32) (bo : FVec Ideal S1x96 .f32) (g : FVec Ideal S512x8 .f32)
    (h : FVec Ideal S8x96 .f32) : FVec Ideal S32x32x96 .f32 :=
  proj (addf
    (att (expo (scores (shapeCast S1024x96 (shapeCast S32x32x96 q shapeCasts_S32x1x32x96_S32x32x96) shapeCasts_S32x32x96_S1024x96)
      (k1_pay16 k0 k1 k2 k3) m)) (k1_pay16 k0 k1 k2 k3) m g h)
    (shapeCast S1024x96 l shapeCasts_S32x32x96_S1024x96)) wo bo

/-- The output block is the seven windows one after another, channels first. -/
theorem join1_eq (q : FVec Ideal S32x7x32x96 .f32) (l : FVec Ideal S32x224x96 .f32) (m : FVec Ideal S512x96 .f32)
    (k0 k1 k2 k3 k4 k5 k6 k7 k8 k9 k10 k11 k12 k13 k14 k15 k16 k17 k18 k19 k20 k21 k22 k23 k24 k25 k26 k27 : FVec Ideal S1x1x4x1x4x192 .f32)
    (wo : FVec Ideal S96x96 .f32) (bo : FVec Ideal S1x96 .f32) (g : FVec Ideal S512x8 .f32) (h : FVec Ideal S8x96 .f32) :
    Run.join1 q l m k0 k1 k2 k3 k4 k5 k6 k7 k8 k9 k10 k11 k12 k13 k14 k15 k16 k17 k18 k19 k20 k21 k22 k23 k24 k25 k26 k27 wo bo g h
      = k1_pay1 (transpose S96x32x224 [2, 0, 1] (concatenate S32x224x96 1
        [⟨S32x32x96, strip (extractStridedSlice S32x1x32x96 ![0, 0, 0, 0] q slices_S32x7x32x96_o0_0_0_0_S32x1x32x96)
            (extractStridedSlice S32x32x96 ![0, 0, 0] l slices_S32x224x96_o0_0_0_S32x32x96) m k0 k1 k2 k3 wo bo g h⟩,
         ⟨S32x32x96, strip (extractStridedSlice S32x1x32x96 ![0, 1, 0, 0] q slices_S32x7x32x96_o0_1_0_0_S32x1x32x96)
            (extractStridedSlice S32x32x96 ![0, 32, 0] l slices_S32x224x96_o0_32_0_S32x32x96) m k4 k5 k6 k7 wo bo g h⟩,
         ⟨S32x32x96, strip (extractStridedSlice S32x1x32x96 ![0, 2, 0, 0] q slices_S32x7x32x96_o0_2_0_0_S32x1x32x96)
            (extractStridedSlice S32x32x96 ![0, 64, 0] l slices_S32x224x96_o0_64_0_S32x32x96) m k8 k9 k10 k11 wo bo g h⟩,
         ⟨S32x32x96, strip (extractStridedSlice S32x1x32x96 ![0, 3, 0, 0] q slices_S32x7x32x96_o0_3_0_0_S32x1x32x96)
            (extractStridedSlice S32x32x96 ![0, 96, 0] l slices_S32x224x96_o0_96_0_S32x32x96) m k12 k13 k14 k15 wo bo g h⟩,
         ⟨S32x32x96, strip (extractStridedSlice S32x1x32x96 ![0, 4, 0, 0] q slices_S32x7x32x96_o0_4_0_0_S32x1x32x96)
            (extractStridedSlice S32x32x96 ![0, 128, 0] l slices_S32x224x96_o0_128_0_S32x32x96) m k16 k17 k18 k19 wo bo g h⟩,
         ⟨S32x32x96, strip (extractStridedSlice S32x1x32x96 ![0, 5, 0, 0] q slices_S32x7x32x96_o0_5_0_0_S32x1x32x96)
            (extractStridedSlice S32x32x96 ![0, 160, 0] l slices_S32x224x96_o0_160_0_S32x32x96) m k20 k21 k22 k23 wo bo g h⟩,
         ⟨S32x32x96, strip (extractStridedSlice S32x1x32x96 ![0, 6, 0, 0] q slices_S32x7x32x96_o0_6_0_0_S32x1x32x96)
            (extractStridedSlice S32x32x96 ![0, 192, 0] l slices_S32x224x96_o0_192_0_S32x32x96) m k24 k25 k26 k27 wo bo g h⟩]
        concatenates_S32x32x96_S32x32x96_S32x32x96_S32x32x96_S32x32x96_S32x32x96_S32x32x96_S32x224x96_d1)
        transposes_S32x224x96_p2_0_1_S96x32x224) := rfl

end Cert.Value
end
-- ==== Proof.Value.Math.lean ====
/- The algebra the value claim rests on: sums over blocks, and a softmax that does not depend on which real number is
   taken off its scores nor on whether the division comes before or after the weighted sum. -/
module

public import Idealize.ShloMosaic.Lib.Pointwise

@[expose] public section

noncomputable section

namespace Cert.Value

open Idealize.ShloMosaic

/-- A sum over `N = A * B` places that vanishes outside block `g` is the sum over that block. -/
theorem sum_block {A B N : ℕ} (hN : N = A * B) (g : Fin A) (f : Fin N → EReal) (hf : ∀ i : Fin N, i.val / B ≠ g.val → f i = 0) :
    ∑ i, f i = ∑ j : Fin B, f ⟨g.val * B + j.val, by
      subst hN; calc g.val * B + j.val < g.val * B + B := by omega
        _ = (g.val + 1) * B := by ring
        _ ≤ A * B := Nat.mul_le_mul_right _ g.isLt⟩ := by
  subst hN
  rw [← Equiv.sum_comp finProdFinEquiv f, Fintype.sum_prod_type, Finset.sum_eq_single g]
  · refine Finset.sum_congr rfl fun j _ => congrArg f (Fin.ext ?_)
    simp [finProdFinEquiv]; ring
  · intro a _ ha
    refine Finset.sum_eq_zero fun j _ => hf _ ?_
    have hB : 0 < B := j.pos
    have : (finProdFinEquiv (a, j)).val / B = a.val := by
      simp [finProdFinEquiv, Nat.add_mul_div_left _ _ hB, Nat.div_eq_of_lt j.isLt]
    rw [this]
    exact fun h => ha (Fin.ext h)
  · exact fun h => absurd (Finset.mem_univ g) h

/-- A finite sum of reals is real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real comes out of a finite sum. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- The value is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) {f : ι → EReal} (h : ∀ i, IsReal (f i)) : IsReal (∑ i ∈ s, f i) := by
  choose g hg using h
  exact ⟨∑ i ∈ s, g i, by rw [← sum_coe]; exact Finset.sum_congr rfl fun i _ => hg i⟩

theorem IsReal.div {x : EReal} (h : IsReal x) {y : ℝ} (hy : y ≠ 0) : IsReal (Ideal.div x (y : EReal)) := by
  rw [Ideal.div_coe hy]; exact h.mul ⟨_, rfl⟩

/-- The greatest of finitely many reals, at least one of them, is real. -/
theorem IsReal.fold_max {ι : Type} (s : Finset ι) (hs : s.Nonempty) {f : ι → EReal} (h : ∀ i, IsReal (f i)) :
    IsReal (s.fold max ⊥ f) := by
  have h1 : s.fold max ⊥ f ≠ ⊤ := ne_of_lt ((Finset.fold_max_lt _).2 ⟨bot_lt_top, fun i _ => by
    obtain ⟨r, hr⟩ := h i; rw [hr]; exact EReal.coe_lt_top r⟩)
  have h2 : s.fold max ⊥ f ≠ ⊥ := by
    obtain ⟨i, hi⟩ := hs
    refine ne_of_gt ((Finset.lt_fold_max _).2 (Or.inr ⟨i, hi, ?_⟩))
    obtain ⟨r, hr⟩ := h i; rw [hr]; exact EReal.bot_lt_coe r
  exact ⟨_, (EReal.coe_toReal h1 h2).symm⟩

/-- The weighted sum of the exponentials times the reciprocal of their sum, `M` taken off the scores, is the sum
    weighted by the quotients, `M'` taken off: both are the softmax of the scores. -/
theorem softmax_eq {n : ℕ} (hn : 0 < n) (t : Fin n → EReal) (ht : ∀ j, IsReal (t j)) (v : Fin n → EReal) {M M' : EReal} (hM : IsReal M)
    (hM' : IsReal M') :
    (∑ j, Ideal.exp (t j - M) * v j) * Ideal.div 1 (∑ j, Ideal.exp (t j - M))
      = ∑ j, Ideal.div (Ideal.exp (t j - M')) (∑ k, Ideal.exp (t k - M')) * v j := by
  choose u hu using ht
  obtain ⟨a, rfl⟩ := hM
  obtain ⟨b, rfl⟩ := hM'
  have e (c : ℝ) (j : Fin n) : Ideal.exp (t j - (c : EReal)) = ((Real.exp (u j - c) : ℝ) : EReal) := by
    rw [hu, ← EReal.coe_sub, Ideal.exp_coe]
  have hne : (Finset.univ : Finset (Fin n)).Nonempty := ⟨⟨0, hn⟩, Finset.mem_univ _⟩
  have pos (c : ℝ) : 0 < ∑ j, Real.exp (u j - c) := Finset.sum_pos (fun j _ => Real.exp_pos _) hne
  simp only [e, sum_coe]
  rw [Ideal.div_coe (pos a).ne', one_mul, mul_comm, coe_mul_sum _ _ (by have := pos a; positivity)]
  refine Finset.sum_congr rfl fun j _ => ?_
  rw [Ideal.div_coe (pos b).ne', ← mul_assoc, ← EReal.coe_mul, ← EReal.coe_mul]
  congr 2
  have k (c : ℝ) (j : Fin n) : Real.exp (u j - c) = Real.exp (u j) * Real.exp (-c) := by rw [← Real.exp_add, sub_eq_add_neg]
  simp only [k, ← Finset.sum_mul]
  have hs : (∑ j, Real.exp (u j)) ≠ 0 := (Finset.sum_pos (fun j _ => Real.exp_pos _) hne).ne'
  have := Real.exp_ne_zero (-a)
  have := Real.exp_ne_zero (-b)
  field_simp

end Cert.Value
end
-- ==== Proof.Value.Att.lean ====
/- One window's attention at an index: with the heads' 0/1 masks, the stacked scores are each head's scores, and the
   attention is each head's softmax of them applied to that head's values. -/
module

public import proofs.«01_k».proof.Proof.Value.Strip
public import proofs.«01_k».proof.Proof.Value.Math

@[expose] public section

noncomputable section

namespace Cert.Value

open Cert.KernelIdeal Cert.KernelIdeal.Gen
open Idealize.ShloMosaic

/-- Row `J` of the stacked rows is row `J % 64`. -/
theorem rep_apply (x : FVec Ideal S64x96 .f32) (J : Fin 512) (c : Fin 96) : rep x (ix2 J c) = x (ix2 ⟨J.val % 64, Nat.mod_lt _ (by norm_num)⟩ c) := by
  pointwise [rep]
  have hJ := J.isLt
  split_ifs <;> exact congrArg (fun k => x (ix2 k c)) (Fin.ext (by simp only; omega))

/-- The pattern of minus infinity. -/
theorem ofBits_neg_inf : Ideal.ofBits .f32 0xFF800000#32 = ⊥ := by simp [Ideal.ofBits, Ideal.ieee]

/-- Head `hd`'s score of a query against key `j`. -/
def hs (qf : Fin 96 → EReal) (kf : Fin 64 → Fin 192 → EReal) (hd : Fin 8) (j : Fin 64) : EReal :=
  ∑ d : Fin 12, qf ⟨hd.val * 12 + d.val, by omega⟩ * kf j ⟨hd.val * 12 + d.val, by omega⟩

/-- Channel `ch` of a query's attention: the softmax of its head's scores, `M` taken off them, applied to the values. -/
def attS (qf : Fin 96 → EReal) (kf : Fin 64 → Fin 192 → EReal) (M : EReal) (ch : Fin 96) : EReal :=
  ∑ j : Fin 64, Ideal.div (Ideal.exp (hs qf kf ⟨ch.val / 12, by omega⟩ j - M)) (∑ k : Fin 64, Ideal.exp (hs qf kf ⟨ch.val / 12, by omega⟩ k - M))
    * kf j ⟨96 + ch.val, by omega⟩

/-- Scores of finite queries and keys are finite. -/
theorem hs_real {qf : Fin 96 → EReal} {kf : Fin 64 → Fin 192 → EReal} (hq : ∀ x, IsReal (qf x))
    (hk : ∀ (j : Fin 64) (x : Fin 96), IsReal (kf j ⟨x.val, by omega⟩)) (hd : Fin 8) (j : Fin 64) : IsReal (hs qf kf hd j) :=
  IsReal.sum _ fun d => (hq _).mul (hk j ⟨hd.val * 12 + d.val, by omega⟩)

/-- Which real number is taken off the scores does not matter. -/
theorem attS_eq {qf : Fin 96 → EReal} {kf : Fin 64 → Fin 192 → EReal} (hq : ∀ x, IsReal (qf x))
    (hk : ∀ (j : Fin 64) (x : Fin 96), IsReal (kf j ⟨x.val, by omega⟩)) (ch : Fin 96) {M M' : EReal} (hM : IsReal M) (hM' : IsReal M') :
    attS qf kf M ch = attS qf kf M' ch :=
  (softmax_eq (by norm_num) _ (fun j => hs_real hq hk _ j) _ hM hM).symm.trans (softmax_eq (by norm_num) _ (fun j => hs_real hq hk _ j) _ hM hM')

variable (q : FVec Ideal S1024x96 .f32) (kv : FVec Ideal S64x192 .f32) (m : FVec Ideal S512x96 .f32) (g : FVec Ideal S512x8 .f32)
  (h : FVec Ideal S8x96 .f32)

/-- Head `hd`'s score of pixel `p` against key `j`. -/
def hscore (p : Fin 1024) (hd : Fin 8) (j : Fin 64) : EReal :=
  hs (fun x => q (ix2 p x)) (fun j x => kv (ix2 j x)) hd j

/-- The stacked scores at row block `hd` are head `hd`'s scores. -/
theorem scores_apply (hm : ∀ (J : Fin 512) (ch : Fin 96), m (ix2 J ch) = if J.val / 64 = ch.val / 12 then 1 else 0) (p : Fin 1024) (J : Fin 512) :
    scores q kv m (ix2 p J) = hscore q kv p ⟨J.val / 64, by omega⟩ ⟨J.val % 64, Nat.mod_lt _ (by norm_num)⟩ := by
  pointwise [scores]
  simp only [rep_apply]
  unfold hscore hs
  rw [sum_block (A := 8) (B := 12) (by norm_num) ⟨J.val / 64, by omega⟩]
  · refine Finset.sum_congr rfl fun d _ => ?_
    rw [hm, if_pos (by simp only; omega), mul_one]
    pointwise
  · intro i hi
    rw [hm, if_neg (fun e => hi (by simp only; omega)), mul_zero, mul_zero]

variable (hm : ∀ (J : Fin 512) (ch : Fin 96), m (ix2 J ch) = if J.val / 64 = ch.val / 12 then 1 else 0)
  (hg : ∀ (J : Fin 512) (x : Fin 8), g (ix2 J x) = if J.val / 64 = x.val then 1 else 0)
  (hh : ∀ (x : Fin 8) (ch : Fin 96), h (ix2 x ch) = if x.val = ch.val / 12 then 1 else 0)
  (hq : ∀ (p : Fin 1024) (x : Fin 96), IsReal (q (ix2 p x))) (hk : ∀ (j : Fin 64) (x : Fin 96), IsReal (kv (ix2 j ⟨x.val, by omega⟩)))

include hq hk in
/-- Scores of finite queries and keys are finite. -/
theorem hscore_real (p : Fin 1024) (hd : Fin 8) (j : Fin 64) : IsReal (hscore q kv p hd j) :=
  hs_real (hq p) hk hd j

/-- The attention from exponentials, at an index. -/
theorem att_apply0 (e : FVec Ideal S1024x512 .f32) (p : Fin 1024) (ch : Fin 96)
    (hm : ∀ (J : Fin 512) (ch : Fin 96), m (ix2 J ch) = if J.val / 64 = ch.val / 12 then 1 else 0)
    (hg : ∀ (J : Fin 512) (x : Fin 8), g (ix2 J x) = if J.val / 64 = x.val then 1 else 0)
    (hh : ∀ (x : Fin 8) (ch : Fin 96), h (ix2 x ch) = if x.val = ch.val / 12 then 1 else 0) :
    att e kv m g h (ix2 p ch)
      = (∑ j : Fin 64, e (ix2 p ⟨ch.val / 12 * 64 + j.val, by omega⟩) * kv (ix2 j ⟨96 + ch.val, by omega⟩))
        * Ideal.div 1 (∑ j : Fin 64, e (ix2 p ⟨ch.val / 12 * 64 + j.val, by omega⟩)) := by
  pointwise [att]
  simp only [rep_apply]
  congr 1
  · rw [sum_block (A := 8) (B := 64) (by norm_num) ⟨ch.val / 12, by omega⟩]
    · refine Finset.sum_congr rfl fun j _ => ?_
      rw [hm, if_pos (by simp only; omega), mul_one]
      pointwise
      refine congrArg _ (congrArg (fun k => kv (ix2 k _)) (Fin.ext ?_))
      simp only; omega
    · intro i hi
      rw [hm, if_neg (fun e => hi (by simp only; omega)), mul_zero, mul_zero]
  · rw [Finset.sum_eq_single (⟨ch.val / 12, by omega⟩ : Fin 8)]
    · rw [hh, if_pos rfl, mul_one, sum_block (A := 8) (B := 64) (by norm_num) ⟨ch.val / 12, by omega⟩]
      · refine congrArg _ (Finset.sum_congr rfl fun j _ => ?_)
        rw [hg, if_pos (by simp only; omega), mul_one]
      · intro i hi
        rw [hg, if_neg (fun e => hi (by simp only; omega)), mul_zero]
    · intro b _ hb
      rw [hh, if_neg (fun e => hb (Fin.ext e)), mul_zero]
    · exact fun hn => absurd (Finset.mem_univ _) hn

include hm hg hh hq hk in
/-- One window's attention at an index is the head's softmax of its scores, any real number taken off them, applied to
    its values. -/
theorem att_apply (p : Fin 1024) (ch : Fin 96) {M : EReal} (hM : IsReal M) :
    att (expo (scores q kv m)) kv m g h (ix2 p ch)
      = attS (fun x => q (ix2 p x)) (fun j x => kv (ix2 j x)) M ch := by
  have hX : IsReal (Finset.fold max (Ideal.ofBits FTy.f32 0xFF800000#32) (fun x => scores q kv m (ix2 p x)) Finset.univ) := by
    rw [ofBits_neg_inf]
    refine IsReal.fold_max _ ⟨0, Finset.mem_univ _⟩ fun J => ?_
    rw [scores_apply q kv m hm]
    exact hscore_real q kv hq hk _ _ _
  have he (j : Fin 64) : expo (scores q kv m) (ix2 p ⟨ch.val / 12 * 64 + j.val, by omega⟩)
      = Ideal.exp (hscore q kv p ⟨ch.val / 12, by omega⟩ j
        - Finset.fold max (Ideal.ofBits FTy.f32 0xFF800000#32) (fun x => scores q kv m (ix2 p x)) Finset.univ) := by
    pointwise [expo]
    rw [scores_apply q kv m hm]
    congr 2
    refine congrArg₂ (hscore q kv p) (Fin.ext ?_) (Fin.ext ?_) <;> simp only <;> omega
  rw [att_apply0 kv m g h _ p ch hm hg hh]
  simp only [he]
  exact softmax_eq (by norm_num) _ (fun j => hscore_real q kv hq hk _ _ _) _ hX hM

end Cert.Value
end
-- ==== Proof.Value.Spec.lean ====
/- The function both programs compute, element by element over the extended reals: the projection of a pixel, the
   pooled keys and values of a window, the zero-padded values and their convolution, and the output. -/
module

public import proofs.«01_k».proof.Proof.Value.Att

@[expose] public section

noncomputable section

namespace Cert.Value

open Idealize.ShloMosaic

variable (X : (⟨4, ![2, 96, 224, 224]⟩ : Shape).Idx → EReal) (W : (⟨2, ![96, 288]⟩ : Shape).Idx → EReal) (B : (⟨1, ![288]⟩ : Shape).Idx → EReal)

/-- Entry `j` of the projection of the pixel at row `R`, column `C` of image `n`: query, key and value side by side. -/
def lin (n : Fin 2) (R C : Fin 224) (j : Fin 288) : EReal := ∑ k : Fin 96, X (ix4 n k R C) * W (ix2 k j) + B (ix1 j)

/-- Channel `x` of the keys and values of window `u`, averaged over the block of pixels at `a`, `b`. -/
def pool (n : Fin 2) (u : Fin 49) (a b : Fin 4) (x : Fin 192) : EReal :=
  Ideal.div (∑ i : Fin 8, ∑ k : Fin 8, lin X W B n ⟨u.val / 7 * 32 + (a.val * 8 + i.val), by omega⟩ ⟨u.val % 7 * 32 + (b.val * 8 + k.val), by omega⟩
    ⟨96 + x.val, by omega⟩) (Ideal.ofBits .f32 0x42800000#32)

/-- The value image with a border of zeros one pixel wide. -/
def vpad (n : Fin 2) (ch : Fin 96) (R C : ℕ) : EReal :=
  if h : 1 ≤ R ∧ R ≤ 224 ∧ 1 ≤ C ∧ C ≤ 224 then lin X W B n ⟨R - 1, by omega⟩ ⟨C - 1, by omega⟩ ⟨192 + ch.val, by omega⟩ else 0

/-- The nine products of a window of three by three with nine weights, summed row after row. -/
def conv9 (f : ℕ → ℕ → EReal) (w : Fin 3 → Fin 3 → EReal) : EReal :=
  f 0 0 * w 0 0 + f 0 1 * w 0 1 + f 0 2 * w 0 2 + f 1 0 * w 1 0 + f 1 1 * w 1 1 + f 1 2 * w 1 2 + f 2 0 * w 2 0 + f 2 1 * w 2 1 + f 2 2 * w 2 2

variable (WL : (⟨4, ![96, 1, 3, 3]⟩ : Shape).Idx → EReal) (WO : (⟨2, ![96, 96]⟩ : Shape).Idx → EReal) (BO : (⟨1, ![96]⟩ : Shape).Idx → EReal)

/-- The convolution of the values with the channel's nine weights. -/
def lepe (n : Fin 2) (ch : Fin 96) (R C : Fin 224) : EReal :=
  conv9 (fun dy dx => vpad X W B n ch (R.val + dy) (C.val + dx)) (fun dy dx => WL (ix4 ch 0 dy dx))

/-- A pixel's query, scaled. -/
def qfun (n : Fin 2) (R C : Fin 224) (x : Fin 96) : EReal := lin X W B n R C ⟨x.val, by omega⟩ * Ideal.ofBits .f32 0x3DD105EC#32

/-- Key `j` of the sixty-four a window attends to, in the four windows `ix` routes it to. -/
def kfun (ix : Fin 4 → Fin 49) (n : Fin 2) (j : Fin 64) (x : Fin 192) : EReal :=
  pool X W B n (ix ⟨j.val / 16, by omega⟩) ⟨j.val % 16 / 4, by omega⟩ ⟨j.val % 4, by omega⟩ x

/-- The output, `M` taken off the scores. -/
def outp (ix : Fin 4 → Fin 49) (M : EReal) (n : Fin 2) (o : Fin 96) (R C : Fin 224) : EReal :=
  (∑ ch : Fin 96, (attS (qfun X W B n R C) (kfun X W B ix n) M ch + lepe X W B WL n ch R C) * WO (ix2 ch o)) + BO (ix1 o)

/-- The scale is a real number. -/
theorem scale_real : IsReal (Ideal.ofBits .f32 0x3DD105EC#32) := by
  unfold Ideal.ofBits Ideal.ieee
  dsimp only
  rw [if_neg (by decide), if_neg (by decide)]
  exact ⟨_, rfl⟩

/-- The number of pixels in an averaged block. -/
theorem ofBits_64 : Ideal.ofBits .f32 0x42800000#32 = ((64 : ℝ) : EReal) := by
  simp [Ideal.ofBits, Ideal.ieee, -EReal.coe_mul]; norm_num

/-- What makes the queries and keys finite: the image, and the query and key part of the projection. -/
structure Finite : Prop where
  x : ∀ i, IsReal (X i)
  w : ∀ (k : Fin 96) (j : Fin 192), IsReal (W (ix2 k ⟨j.val, by omega⟩))
  b : ∀ j : Fin 192, IsReal (B (ix1 ⟨j.val, by omega⟩))

variable {X W B}

/-- The query and key part of a pixel's projection is finite. -/
theorem lin_real (h : Finite X W B) (n : Fin 2) (R C : Fin 224) (j : Fin 288) (hj : j.val < 192) : IsReal (lin X W B n R C j) :=
  (IsReal.sum _ fun k => (h.x _).mul (h.w k ⟨j.val, hj⟩)).add (h.b ⟨j.val, hj⟩)

/-- A scaled query is finite. -/
theorem qfun_real (h : Finite X W B) (n : Fin 2) (R C : Fin 224) (x : Fin 96) : IsReal (qfun X W B n R C x) :=
  (lin_real h n R C _ (by simp only; omega)).mul scale_real

/-- A pooled key is finite. -/
theorem kfun_real (h : Finite X W B) (ix : Fin 4 → Fin 49) (n : Fin 2) (j : Fin 64) (x : Fin 96) : IsReal (kfun X W B ix n j ⟨x.val, by omega⟩) := by
  unfold kfun pool
  rw [ofBits_64]
  exact (IsReal.sum _ fun i => IsReal.sum _ fun k => lin_real h n _ _ _ (by simp only; omega)).div (by norm_num)

end Cert.Value
end
-- ==== Proof.Value.Blocks.lean ====
/- The second call's blocks at an index, read off the arrays. -/
module

public import proofs.«01_k».proof.Proof.Value.Spec
public import proofs.«01_k».proof.Proof.KernelIdeal.Run
public import Idealize.ShloMosaic.Lib.Pipeline.ValueKit.Geometry

@[expose] public section

noncomputable section

namespace Cert.Value

open Cert.KernelIdeal Cert.KernelIdeal.Gen
open Idealize.ShloMosaic
open Idealize.ShloMosaic.TcCoe
open Idealize.ShloMosaic.Pipeline (Dat Window)

variable (V : Dev nD → Valuation τ sig (Elt Ideal)) (a : (pcfg1 (F := Ideal)).Adm) (c : Dev nD)

/-- A point of the second call's grid: its image and its strip. -/
theorem coords1 : ∀ t : Fin grid1.N, (grid1.coords t 0).val = t.val / 7 ∧ (grid1.coords t 1).val = t.val % 7 := by decide +kernel

/-- The strip's own block. -/
theorem index1_1 : ∀ t : Fin grid1.N, cc1_transform_1 (grid1.coords t) = ![t.val / 7, t.val % 7, 0, 0] := by decide +kernel
/-- The row above the strip. -/
theorem index1_0 : ∀ t : Fin grid1.N, cc1_transform_0 (grid1.coords t) = ![t.val / 7, t.val % 7 * 32 - 1, 0, 0] := by decide +kernel
/-- The row below the strip. -/
theorem index1_2 : ∀ t : Fin grid1.N, cc1_transform_2 (grid1.coords t) = ![t.val / 7, min (t.val % 7 * 32 + 32) 223, 0, 0] := by decide +kernel
/-- The output's block. -/
theorem index1_41 : ∀ t : Fin grid1.N, cc1_transform_41 (grid1.coords t) = ![t.val / 7, 0, t.val % 7, 0] := by decide +kernel

/-- The strip at an index. -/
theorem xc_apply (t : Fin grid1.N) (n : Fin 2) (s : Fin 7) (hn : t.val / 7 = n.val) (hs : t.val % 7 = s.val) (r : Fin 32) (C : Fin 224) (k : Fin 96) :
    (Run.iblk1 V a c 1 t : Vec Ideal S1x32x224x96 .f32) (ix4 0 r C k)
      = (V c (Proc.devRef .tc main_v3_1) : Vec Ideal S2x224x224x96 .f32) (ix4 n ⟨s.val * 32 + r.val, by omega⟩ C k) := by
  have e : ((pcfg1.at a).win 1).index t = ![t.val / 7, t.val % 7, 0, 0] := index1_1 t
  blk_simp [Run.iblk1]
  refine congrArg (V c (Proc.devRef .tc main_v3_1)) ?_
  blk_ext [e]

/-- The row above the strip at an index. -/
theorem xp_apply (t : Fin grid1.N) (n : Fin 2) (s : Fin 7) (hn : t.val / 7 = n.val) (hs : t.val % 7 = s.val) (C : Fin 224) (k : Fin 96) :
    (Run.iblk1 V a c 0 t : Vec Ideal S1x1x224x96 .f32) (ix4 0 0 C k)
      = (V c (Proc.devRef .tc main_v3_1) : Vec Ideal S2x224x224x96 .f32) (ix4 n ⟨s.val * 32 - 1, by omega⟩ C k) := by
  have e : ((pcfg1.at a).win 0).index t = ![t.val / 7, t.val % 7 * 32 - 1, 0, 0] := index1_0 t
  blk_simp [Run.iblk1]
  refine congrArg (V c (Proc.devRef .tc main_v3_1)) ?_
  blk_ext [e]

/-- The row below the strip at an index. -/
theorem xn_apply (t : Fin grid1.N) (n : Fin 2) (s : Fin 7) (hn : t.val / 7 = n.val) (hs : t.val % 7 = s.val) (h6 : s.val ≠ 6) (C : Fin 224) (k : Fin 96) :
    (Run.iblk1 V a c 2 t : Vec Ideal S1x1x224x96 .f32) (ix4 0 0 C k)
      = (V c (Proc.devRef .tc main_v3_1) : Vec Ideal S2x224x224x96 .f32) (ix4 n ⟨s.val * 32 + 32, by omega⟩ C k) := by
  have e : ((pcfg1.at a).win 2).index t = ![t.val / 7, min (t.val % 7 * 32 + 32) 223, 0, 0] := index1_2 t
  blk_simp [Run.iblk1]
  refine congrArg (V c (Proc.devRef .tc main_v3_1)) ?_
  blk_ext [e]

/-- The query weights are the whole array. -/
theorem whole_31 (t : Fin grid1.N) : Run.iblk1 V a c 31 t = (V c (Proc.devRef .tc main_v50) : Vec Ideal S96x96 .f32) := by
  have e : ((pcfg1.at a).win 31).index t = ![0, 0] := rfl
  funext y
  blk_simp [Run.iblk1]
  refine congrArg (V c (Proc.devRef .tc main_v50)) ?_
  blk_ext [e]

/-- The query bias are the whole array. -/
theorem whole_32 (t : Fin grid1.N) : Run.iblk1 V a c 32 t = (V c (Proc.devRef .tc main_v52) : Vec Ideal S1x96 .f32) := by
  have e : ((pcfg1.at a).win 32).index t = ![0, 0] := rfl
  funext y
  blk_simp [Run.iblk1]
  refine congrArg (V c (Proc.devRef .tc main_v52)) ?_
  blk_ext [e]

/-- The value weights are the whole array. -/
theorem whole_33 (t : Fin grid1.N) : Run.iblk1 V a c 33 t = (V c (Proc.devRef .tc main_v53) : Vec Ideal S96x96 .f32) := by
  have e : ((pcfg1.at a).win 33).index t = ![0, 0] := rfl
  funext y
  blk_simp [Run.iblk1]
  refine congrArg (V c (Proc.devRef .tc main_v53)) ?_
  blk_ext [e]

/-- The value bias are the whole array. -/
theorem whole_34 (t : Fin grid1.N) : Run.iblk1 V a c 34 t = (V c (Proc.devRef .tc main_v55) : Vec Ideal S1x96 .f32) := by
  have e : ((pcfg1.at a).win 34).index t = ![0, 0] := rfl
  funext y
  blk_simp [Run.iblk1]
  refine congrArg (V c (Proc.devRef .tc main_v55)) ?_
  blk_ext [e]

/-- The convolution's weights are the whole array. -/
theorem whole_35 (t : Fin grid1.N) : Run.iblk1 V a c 35 t = (V c (Proc.devRef .tc main_v49) : Vec Ideal S9x96 .f32) := by
  have e : ((pcfg1.at a).win 35).index t = ![0, 0] := rfl
  funext y
  blk_simp [Run.iblk1]
  refine congrArg (V c (Proc.devRef .tc main_v49)) ?_
  blk_ext [e]

/-- The output weights are the whole array. -/
theorem whole_36 (t : Fin grid1.N) : Run.iblk1 V a c 36 t = (V c (Proc.devRef .tc main_arg4) : Vec Ideal S96x96 .f32) := by
  have e : ((pcfg1.at a).win 36).index t = ![0, 0] := rfl
  funext y
  blk_simp [Run.iblk1]
  refine congrArg (V c (Proc.devRef .tc main_arg4)) ?_
  blk_ext [e]

/-- The output bias are the whole array. -/
theorem whole_37 (t : Fin grid1.N) : Run.iblk1 V a c 37 t = (V c (Proc.devRef .tc main_v56) : Vec Ideal S1x96 .f32) := by
  have e : ((pcfg1.at a).win 37).index t = ![0, 0] := rfl
  funext y
  blk_simp [Run.iblk1]
  refine congrArg (V c (Proc.devRef .tc main_v56)) ?_
  blk_ext [e]

/-- The head mask are the whole array. -/
theorem whole_38 (t : Fin grid1.N) : Run.iblk1 V a c 38 t = (V c (Proc.devRef .tc main_v32) : Vec Ideal S512x96 .f32) := by
  have e : ((pcfg1.at a).win 38).index t = ![0, 0] := rfl
  funext y
  blk_simp [Run.iblk1]
  refine congrArg (V c (Proc.devRef .tc main_v32)) ?_
  blk_ext [e]

/-- The head numbers of the stacked keys are the whole array. -/
theorem whole_39 (t : Fin grid1.N) : Run.iblk1 V a c 39 t = (V c (Proc.devRef .tc main_v39) : Vec Ideal S512x8 .f32) := by
  have e : ((pcfg1.at a).win 39).index t = ![0, 0] := rfl
  funext y
  blk_simp [Run.iblk1]
  refine congrArg (V c (Proc.devRef .tc main_v39)) ?_
  blk_ext [e]

/-- The head numbers of the channels are the whole array. -/
theorem whole_40 (t : Fin grid1.N) : Run.iblk1 V a c 40 t = (V c (Proc.devRef .tc main_v46) : Vec Ideal S8x96 .f32) := by
  have e : ((pcfg1.at a).win 40).index t = ![0, 0] := rfl
  funext y
  blk_simp [Run.iblk1]
  refine congrArg (V c (Proc.devRef .tc main_v46)) ?_
  blk_ext [e]

/-- The row of the table a gathered block reads. -/
theorem kv_row : ∀ s pw : Fin 7,
    (Scalar.indexCast (Scalar.addi (Scalar.muli (BitVec.ofNat 32 s.val) 7#32) (BitVec.ofNat 32 pw.val))).toNat = s.val * 7 + pw.val := by decide

/-- The image of the table a gathered block reads. -/
theorem kv_img : ∀ n : Fin 2, (Scalar.indexCast (BitVec.ofNat 32 n.val)).toNat = n.val := by decide

/-- A rectangle of one word places its index at its offset. -/
theorem kv_unit (off : Fin 3 → ℕ) (inb : ∀ b, off b + S1x1x1.size b ≤ S2x49x4.size b)
    (f : (Rect.unit (s := S2x49x4) off S1x1x1.size inb).shape.Idx) (b : Fin 3) : ((Rect.unit (s := S2x49x4) off S1x1x1.size inb).emb f b).val = off b := by
  have h : ∀ b, (f b).val < S1x1x1.size b := fun b => (f b).isLt
  have h1 : S1x1x1.size b = 1 := by revert b; decide
  have h2 := h b
  rw [h1] at h2
  rw [ValueKit.rect_emb_unit_val]
  omega

/-- The place of an element of a gathered block, from the word that names the block. -/
theorem kv_place (pf : pre1.Contents (Elt Ideal)) (n : Fin 2) (w k : Fin 49) (t : Fin 4) (j : S2x49x4.Idx) (p q : Fin 4) (x : Fin 192)
    (hk : pf 0 (ix3 n w t) = BitVec.ofNat 32 k.val) (h0 : (j 0).val = n.val) (h1 : (j 1).val = w.val) (h2 : (j 2).val = t.val)
    (e : S2x7x4x7x4x192.Idx)
    (he : ∀ b, (e b).val = Run.kvIx n.val (pf 0 j) b * S1x1x4x1x4x192.size b + 1 * ((ix6 (0 : Fin 1) (0 : Fin 1) p (0 : Fin 1) q x) b).val) :
    e = ix6 n ⟨k.val / 7, by omega⟩ p ⟨k.val % 7, Nat.mod_lt _ (by norm_num)⟩ q x := by
  have hj : j = ix3 n w t := by
    funext b
    fin_cases b
    · exact Fin.ext h0
    · exact Fin.ext h1
    · exact Fin.ext h2
  subst hj
  rw [hk, Run.kvIx_ofNat] at he
  funext b
  refine Fin.ext ((he b).trans ?_)
  fin_cases b
  · show n.val * 1 + 1 * 0 = n.val; omega
  · show k.val / 7 * 1 + 1 * 0 = k.val / 7; omega
  · show 0 * 4 + 1 * p.val = p.val; omega
  · show k.val % 7 * 1 + 1 * 0 = k.val % 7; omega
  · show 0 * 4 + 1 * q.val = q.val; omega
  · show 0 * 192 + 1 * x.val = x.val; omega

set_option maxHeartbeats 2000000 in
/-- A gathered block at an index. -/
theorem kvs_apply (t : Fin grid1.N) (b : Fin 28) (k : Fin 49)
    (hk : ∀ w : Fin 49, w.val = (grid1.coords t 1).val * 7 + b.val / 4 →
      a.1 0 (ix3 (grid1.coords t 0) w (⟨b.val % 4, Nat.mod_lt _ (by norm_num)⟩ : Fin 4)) = BitVec.ofNat 32 k.val) (p q : Fin 4) (x : Fin 192) :
    Run.kvs V a c t b (ix6 0 0 p 0 q x) = (V c (Proc.devRef .tc main_v3_0) : Vec Ideal S2x7x4x7x4x192 .f32)
      (ix6 (grid1.coords t 0) ⟨k.val / 7, by omega⟩ p ⟨k.val % 7, Nat.mod_lt _ (by norm_num)⟩ q x) := by
  have hs : (grid1.coords t 1).val < 7 := (grid1.coords t 1).isLt
  have hw := hk ⟨(grid1.coords t 1).val * 7 + b.val / 4, by omega⟩ rfl
  fin_cases b
  all_goals
    refine congrArg (V c (Proc.devRef .tc main_v3_0)) (kv_place a.1 _ _ _ _ _ p q x hw ?_ ?_ ?_ _ fun _ => rfl)
    · exact (kv_unit _ _ _ 0).trans (kv_img _)
    · exact (kv_unit _ _ _ 1).trans (kv_row _ ⟨_, by decide⟩)
    · exact kv_unit _ _ _ 2

end Cert.Value
end
-- ==== Proof.Value.Body.lean ====
/- What the second call's body writes, at an index. -/
module

public import proofs.«01_k».proof.Proof.Value.Att

@[expose] public section

noncomputable section

namespace Cert.Value

open Cert.KernelIdeal Cert.KernelIdeal.Gen
open Idealize.ShloMosaic

/-- The four gathered blocks of a window, key by key. -/
def keys (b : Fin 4 → Vec Ideal S1x1x4x1x4x192 .f32) (j : Fin 64) (x : Fin 192) : EReal :=
  b ⟨j.val / 16, by omega⟩ (ix6 0 0 ⟨j.val % 16 / 4, by omega⟩ 0 ⟨j.val % 4, by omega⟩ x)

/-- A gathered block's entry is the window's key at the matching place. -/
theorem keys_eq (b : Fin 4 → Vec Ideal S1x1x4x1x4x192 .f32) (j : Fin 64) (x : Fin 192) (t u v : Fin 4) (h1 : t.val = j.val / 16)
    (h2 : u.val = j.val % 16 / 4) (h3 : v.val = j.val % 4) : b t (ix6 0 0 u 0 v x) = keys b j x := by
  unfold keys
  rw [show t = ⟨j.val / 16, by omega⟩ from Fin.ext h1, show u = ⟨j.val % 16 / 4, by omega⟩ from Fin.ext h2,
    show v = ⟨j.val % 4, by omega⟩ from Fin.ext h3]

/-- The gathered blocks stacked are the window's keys and values. -/
theorem pay16_apply (b : Fin 4 → Vec Ideal S1x1x4x1x4x192 .f32) (j : Fin 64) (x : Fin 192) :
    k1_pay16 (F := Ideal) (b 0) (b 1) (b 2) (b 3) (ix2 j x) = keys b j x := by
  have hj := j.isLt
  have v1 : (1 : Fin 4).val = 1 := rfl
  have v2 : (2 : Fin 4).val = 2 := rfl
  have v3 : (3 : Fin 4).val = 3 := rfl
  pointwise [k1_pay16]
  split_ifs <;> exact keys_eq b j x _ _ _ (by simp only [v1, v2, v3, Fin.val_zero]; omega) (by simp only <;> omega) (by simp only <;> omega)

/-- The 0/1 matrices: which head a stacked row and a channel belong to. -/
structure Heads (m : FVec Ideal S512x96 .f32) (g : FVec Ideal S512x8 .f32) (h : FVec Ideal S8x96 .f32) : Prop where
  m : ∀ (J : Fin 512) (ch : Fin 96), m (ix2 J ch) = if J.val / 64 = ch.val / 12 then 1 else 0
  g : ∀ (J : Fin 512) (x : Fin 8), g (ix2 J x) = if J.val / 64 = x.val then 1 else 0
  h : ∀ (x : Fin 8) (ch : Fin 96), h (ix2 x ch) = if x.val = ch.val / 12 then 1 else 0

/-- One window's output at an index. -/
theorem strip_apply (q : FVec Ideal S32x1x32x96 .f32) (l : FVec Ideal S32x32x96 .f32) (m : FVec Ideal S512x96 .f32)
    (b : Fin 4 → Vec Ideal S1x1x4x1x4x192 .f32) (wo : FVec Ideal S96x96 .f32) (bo : FVec Ideal S1x96 .f32) (g : FVec Ideal S512x8 .f32)
    (h : FVec Ideal S8x96 .f32) (H : Heads m g h) (hq : ∀ (r c : Fin 32) (x : Fin 96), IsReal (q (ix4 r 0 c x)))
    (hk : ∀ (j : Fin 64) (x : Fin 96), IsReal (keys b j ⟨x.val, by omega⟩)) {M : EReal} (hM : IsReal M) (r c : Fin 32) (o : Fin 96) :
    strip q l m (b 0) (b 1) (b 2) (b 3) wo bo g h (ix3 r c o)
      = (∑ ch : Fin 96, (attS (fun x => q (ix4 r 0 c x)) (keys b) M ch + l (ix3 r c ch)) * wo (ix2 ch o)) + bo (ix2 0 o) := by
  have hkv : ∀ (j : Fin 64) (x : Fin 192), k1_pay16 (F := Ideal) (b 0) (b 1) (b 2) (b 3) (ix2 j x) = keys b j x := pay16_apply b
  have hQ (p : Fin 1024) (x : Fin 96) : shapeCast S1024x96 (shapeCast S32x32x96 q shapeCasts_S32x1x32x96_S32x32x96) shapeCasts_S32x32x96_S1024x96 (ix2 p x)
      = q (ix4 ⟨p.val / 32, by omega⟩ 0 ⟨p.val % 32, by omega⟩ x) := by pointwise
  unfold strip
  generalize shapeCast S1024x96 (shapeCast S32x32x96 q shapeCasts_S32x1x32x96_S32x32x96) shapeCasts_S32x32x96_S1024x96 = Q at hQ ⊢
  generalize k1_pay16 (F := Ideal) (b 0) (b 1) (b 2) (b 3) = kv at hkv ⊢
  pointwise [proj]
  congr 1
  refine Finset.sum_congr rfl fun ch _ => ?_
  congr 1
  rw [att_apply _ _ m g h H.m H.g H.h (fun p x => by rw [hQ]; exact hq _ _ _) (fun j x => by rw [hkv]; exact hk j x) _ _ hM]
  refine congrArg₂ (· + ·) (congrArg₂ (fun a b => attS a b M ch) (funext fun x => ?_) (funext fun j => funext fun x => hkv j x)) rfl
  rw [hQ]
  have e1 : (⟨(r.val * 32 + c.val) / 32, by omega⟩ : Fin 32) = r := Fin.ext (by simp only; omega)
  have e2 : (⟨(r.val * 32 + c.val) % 32, by omega⟩ : Fin 32) = c := Fin.ext (by simp only; omega)
  rw [e1, e2]

/-- The gathered blocks of window `pw` of the strip. -/
def quad (b : Fin 28 → Vec Ideal S1x1x4x1x4x192 .f32) (pw : Fin 7) (t : Fin 4) : Vec Ideal S1x1x4x1x4x192 .f32 := b ⟨pw.val * 4 + t.val, by omega⟩

section Join
variable (q : FVec Ideal S32x7x32x96 .f32) (l : FVec Ideal S32x224x96 .f32) (m : FVec Ideal S512x96 .f32)
    (b : Fin 28 → Vec Ideal S1x1x4x1x4x192 .f32) (wo : FVec Ideal S96x96 .f32) (bo : FVec Ideal S1x96 .f32) (g : FVec Ideal S512x8 .f32)
    (h : FVec Ideal S8x96 .f32) (H : Heads m g h) (hq : ∀ r pw c x, IsReal (q (ix4 r pw c x)))
    (hk : ∀ (pw : Fin 7) (j : Fin 64) (x : Fin 96), IsReal (keys (quad b pw) j ⟨x.val, by omega⟩)) {M : EReal} (hM : IsReal M)

include H hq hk hM in
/-- The output of window `pw` of the strip, its queries and convolution cut out of the strip's. -/
theorem window_apply (r c : Fin 32) (pw : Fin 7) (o : Fin 96) (qs : FVec Ideal S32x1x32x96 .f32) (ls : FVec Ideal S32x32x96 .f32) (b0 b1 b2 b3 : Vec Ideal S1x1x4x1x4x192 .f32)
    (h0 : b0 = b ⟨pw.val * 4 + 0, by omega⟩) (h1 : b1 = b ⟨pw.val * 4 + 1, by omega⟩) (h2 : b2 = b ⟨pw.val * 4 + 2, by omega⟩)
    (h3 : b3 = b ⟨pw.val * 4 + 3, by omega⟩)
    (hqs : ∀ r c x, qs (ix4 r 0 c x) = q (ix4 r pw c x)) (hls : ∀ r c ch, ls (ix3 r c ch) = l (ix3 r ⟨pw.val * 32 + c.val, by omega⟩ ch))
    (C : Fin 32) (hC : C.val = c.val) :
    strip qs ls m b0 b1 b2 b3 wo bo g h (ix3 r C o)
      = (∑ ch : Fin 96, (attS (fun x => q (ix4 r pw c x)) (keys (quad b pw)) M ch + l (ix3 r ⟨pw.val * 32 + c.val, by omega⟩ ch)) * wo (ix2 ch o))
        + bo (ix2 0 o) := by
  obtain rfl : C = c := Fin.ext hC
  have := strip_apply qs ls m (quad b pw) wo bo g h H (fun r c x => by rw [hqs]; exact hq _ _ _ _) (hk pw) hM r C o
  simp only [hqs, hls] at this
  subst h0 h1 h2 h3
  exact this

include H hq hk hM in
/-- The output block at an index. -/
theorem join1_apply (r c : Fin 32) (pw : Fin 7) (o : Fin 96) :
    Run.join1 q l m (b 0) (b 1) (b 2) (b 3) (b 4) (b 5) (b 6) (b 7) (b 8) (b 9) (b 10) (b 11) (b 12) (b 13) (b 14) (b 15) (b 16) (b 17) (b 18)
        (b 19) (b 20) (b 21) (b 22) (b 23) (b 24) (b 25) (b 26) (b 27) wo bo g h (ix4 0 o r ⟨pw.val * 32 + c.val, by omega⟩)
      = (∑ ch : Fin 96, (attS (fun x => q (ix4 r pw c x)) (keys (quad b pw)) M ch + l (ix3 r ⟨pw.val * 32 + c.val, by omega⟩ ch)) * wo (ix2 ch o))
        + bo (ix2 0 o) := by
  rw [join1_eq]
  pointwise [k1_pay1]
  have hc := c.isLt
  have hp := pw.isLt
  by_cases h0 : pw.val * 32 + c.val < 32
  · rw [dif_pos h0]
    obtain rfl : pw = 0 := Fin.ext (by show _ = 0; omega)
    refine window_apply q l m b wo bo g h H hq hk hM r c 0 o _ _ _ _ _ _ (congrArg b (by decide)) (congrArg b (by decide)) (congrArg b (by decide))
      (congrArg b (by decide)) (fun r c x => ?_) (fun r c ch => ?_) _ (by simp only; omega) <;> pointwise
  rw [dif_neg h0]
  by_cases h1 : pw.val * 32 + c.val - 32 < 32
  · rw [dif_pos h1]
    obtain rfl : pw = 1 := Fin.ext (by show _ = 1; omega)
    refine window_apply q l m b wo bo g h H hq hk hM r c 1 o _ _ _ _ _ _ (congrArg b (by decide)) (congrArg b (by decide)) (congrArg b (by decide))
      (congrArg b (by decide)) (fun r c x => ?_) (fun r c ch => ?_) _ (by simp only; omega) <;> pointwise
  rw [dif_neg h1]
  by_cases h2 : pw.val * 32 + c.val - 32 - 32 < 32
  · rw [dif_pos h2]
    obtain rfl : pw = 2 := Fin.ext (by show _ = 2; omega)
    refine window_apply q l m b wo bo g h H hq hk hM r c 2 o _ _ _ _ _ _ (congrArg b (by decide)) (congrArg b (by decide)) (congrArg b (by decide))
      (congrArg b (by decide)) (fun r c x => ?_) (fun r c ch => ?_) _ (by simp only; omega) <;> pointwise
  rw [dif_neg h2]
  by_cases h3 : pw.val * 32 + c.val - 32 - 32 - 32 < 32
  · rw [dif_pos h3]
    obtain rfl : pw = 3 := Fin.ext (by show _ = 3; omega)
    refine window_apply q l m b wo bo g h H hq hk hM r c 3 o _ _ _ _ _ _ (congrArg b (by decide)) (congrArg b (by decide)) (congrArg b (by decide))
      (congrArg b (by decide)) (fun r c x => ?_) (fun r c ch => ?_) _ (by simp only; omega) <;> pointwise
  rw [dif_neg h3]
  by_cases h4 : pw.val * 32 + c.val - 32 - 32 - 32 - 32 < 32
  · rw [dif_pos h4]
    obtain rfl : pw = 4 := Fin.ext (by show _ = 4; omega)
    refine window_apply q l m b wo bo g h H hq hk hM r c 4 o _ _ _ _ _ _ (congrArg b (by decide)) (congrArg b (by decide)) (congrArg b (by decide))
      (congrArg b (by decide)) (fun r c x => ?_) (fun r c ch => ?_) _ (by simp only; omega) <;> pointwise
  rw [dif_neg h4]
  by_cases h5 : pw.val * 32 + c.val - 32 - 32 - 32 - 32 - 32 < 32
  · rw [dif_pos h5]
    obtain rfl : pw = 5 := Fin.ext (by show _ = 5; omega)
    refine window_apply q l m b wo bo g h H hq hk hM r c 5 o _ _ _ _ _ _ (congrArg b (by decide)) (congrArg b (by decide)) (congrArg b (by decide))
      (congrArg b (by decide)) (fun r c x => ?_) (fun r c ch => ?_) _ (by simp only; omega) <;> pointwise
  rw [dif_neg h5]
  · obtain rfl : pw = 6 := Fin.ext (by show _ = 6; omega)
    refine window_apply q l m b wo bo g h H hq hk hM r c 6 o _ _ _ _ _ _ (congrArg b (by decide)) (congrArg b (by decide)) (congrArg b (by decide))
      (congrArg b (by decide)) (fun r c x => ?_) (fun r c ch => ?_) _ (by simp only; omega) <;> pointwise
end Join

end Cert.Value
end
-- ==== Proof.Value.Conv.lean ====
/- The second call's queries and its convolution of the values, at an index. -/
module

public import proofs.«01_k».proof.Proof.Value.Spec

@[expose] public section

noncomputable section

namespace Cert.Value

open Cert.KernelIdeal Cert.KernelIdeal.Gen
open Idealize.ShloMosaic

/-- The queries at an index. -/
theorem pay3_apply (xc : Vec Ideal S1x32x224x96 .f32) (wq : Vec Ideal S96x96 .f32) (bq : Vec Ideal S1x96 .f32) (r c : Fin 32) (pw : Fin 7) (x : Fin 96) :
    k1_pay3 (F := Ideal) xc wq bq (ix4 r pw c x)
      = (∑ k : Fin 96, xc (ix4 0 r ⟨pw.val * 32 + c.val, by omega⟩ k) * wq (ix2 k x) + bq (ix2 0 x)) * Ideal.ofBits .f32 0x3DD105EC#32 := by
  pointwise [k1_pay3, k1_pay2]
  have e : (⟨(r.val * 224 + pw.val * 32 + c.val) % 224, Nat.mod_lt _ (by norm_num)⟩ : Fin 224) = ⟨pw.val * 32 + c.val, by omega⟩ :=
    Fin.ext (by simp only; omega)
  rw [e]

/-- Row `k` of the convolution's weights. -/
theorem tap_apply (wl : Vec Ideal S9x96 .f32) (k : ℕ) (hk) (hk' : k < 9) (ch : Fin 96) : Run.tap wl k hk (ix2 0 ch) = wl (ix2 ⟨k, hk'⟩ ch) := by
  refine congrArg wl (funext fun a => ?_)
  fin_cases a
  · exact Fin.ext (by show k + 1 * 0 = k; omega)
  · exact Fin.ext (by show 0 + 1 * ch.val = ch.val; omega)

/-- The convolution is nine products of the padded values with the weights. -/
theorem lepe1_apply (i : grid1.Coords) (xp xn : Vec Ideal S1x1x224x96 .f32) (xc : Vec Ideal S1x32x224x96 .f32) (wv : Vec Ideal S96x96 .f32)
    (bv : Vec Ideal S1x96 .f32) (wl : Vec Ideal S9x96 .f32) (f : ℕ → ℕ → EReal) (w : Fin 3 → Fin 3 → EReal) (r : Fin 32) (C : Fin 224) (ch : Fin 96)
    (hf : ∀ (R : Fin 34) (D : Fin 226), k1_pay5 (F := Ideal) (k1_pay4 i xc xp xn wv) bv (ix3 R D ch) = f R.val D.val)
    (hw : ∀ dy dx : Fin 3, wl (ix2 ⟨3 * dy.val + dx.val, by omega⟩ ch) = w dy dx) :
    Run.lepe1 (F := Ideal) i xp xn xc wv bv wl (ix3 r C ch) = conv9 (fun dy dx => f (r.val + dy) (C.val + dx)) w := by
  unfold Run.lepe1
  generalize k1_pay4 (F := Ideal) i xc xp xn wv = v at hf ⊢
  unfold k1_pay6 k1_pay7
  generalize k1_pay5 (F := Ideal) v bv = V at hf ⊢
  pointwise [k1_pay8, k1_pay9]
  simp only [hf]
  rw [tap_apply wl 0 _ (by norm_num), tap_apply wl 1 _ (by norm_num), tap_apply wl 2 _ (by norm_num), tap_apply wl 3 _ (by norm_num),
    tap_apply wl 4 _ (by norm_num), tap_apply wl 5 _ (by norm_num), tap_apply wl 6 _ (by norm_num), tap_apply wl 7 _ (by norm_num),
    tap_apply wl 8 _ (by norm_num)]
  unfold conv9
  rw [← hw 0 0, ← hw 0 1, ← hw 0 2, ← hw 1 0, ← hw 1 1, ← hw 1 2, ← hw 2 0, ← hw 2 1, ← hw 2 2]
  simp only [Nat.add_comm r.val, Nat.add_comm C.val, Nat.zero_add]
  rfl

variable {X : (⟨4, ![2, 96, 224, 224]⟩ : Shape).Idx → EReal} {W : (⟨2, ![96, 288]⟩ : Shape).Idx → EReal} {B : (⟨1, ![288]⟩ : Shape).Idx → EReal}

/-- The body's padded values at an index, by where the index falls. -/
theorem pay5_raw (i : grid1.Coords) (xp xn : Vec Ideal S1x1x224x96 .f32) (xc : Vec Ideal S1x32x224x96 .f32) (wv : Vec Ideal S96x96 .f32)
    (bv : Vec Ideal S1x96 .f32) (R : Fin 34) (D : Fin 226) (ch : Fin 96) :
    k1_pay5 (F := Ideal) (k1_pay4 i xc xp xn wv) bv (ix3 R D ch)
      = if D.val < 1 then 0 else if D.val - 1 < 224 then
          (∑ k : Fin 96, (if (R.val * 224 + (D.val - 1)) / 224 < 1 then
              Scalar.select (Scalar.cmpi CmpIPredicate.eq (BitVec.ofNat 32 (i 1).val) 0#32) 0
                (xp (ix4 0 0 ⟨(R.val * 224 + (D.val - 1)) % 224, Nat.mod_lt _ (by norm_num)⟩ k))
            else if h : (R.val * 224 + (D.val - 1)) / 224 - 1 < 32 then
              xc (ix4 0 ⟨(R.val * 224 + (D.val - 1)) / 224 - 1, h⟩ ⟨(R.val * 224 + (D.val - 1)) % 224, Nat.mod_lt _ (by norm_num)⟩ k)
            else Scalar.select (Scalar.cmpi CmpIPredicate.eq (BitVec.ofNat 32 (i 1).val) 6#32) 0
                (xn (ix4 0 0 ⟨(R.val * 224 + (D.val - 1)) % 224, Nat.mod_lt _ (by norm_num)⟩ k))) * wv (ix2 k ch)) + bv (ix2 0 ch)
        else 0 := by
  pointwise [k1_pay5, k1_pay4, k1_pay2]
  rfl

/-- The body's padded values are the padded value image's, the value part of the bias being zero. -/
theorem pay5_apply (i : grid1.Coords) (xp xn : Vec Ideal S1x1x224x96 .f32) (xc : Vec Ideal S1x32x224x96 .f32) (wv : Vec Ideal S96x96 .f32)
    (bv : Vec Ideal S1x96 .f32) (n : Fin 2) (s : Fin 7) (hs : (i 1).val = s.val)
    (hxc : ∀ (r : Fin 32) (C : Fin 224) (k : Fin 96), xc (ix4 0 r C k) = X (ix4 n k ⟨s.val * 32 + r.val, by omega⟩ C))
    (hxp : ∀ (h : s.val ≠ 0) (C : Fin 224) (k : Fin 96), xp (ix4 0 0 C k) = X (ix4 n k ⟨s.val * 32 - 1, by omega⟩ C))
    (hxn : ∀ (h : s.val ≠ 6) (C : Fin 224) (k : Fin 96), xn (ix4 0 0 C k) = X (ix4 n k ⟨s.val * 32 + 32, by omega⟩ C))
    (hwv : ∀ k ch : Fin 96, wv (ix2 k ch) = W (ix2 k ⟨192 + ch.val, by omega⟩))
    (hbv : ∀ ch : Fin 96, bv (ix2 0 ch) = B (ix1 ⟨192 + ch.val, by omega⟩)) (hB : ∀ ch : Fin 96, B (ix1 ⟨192 + ch.val, by omega⟩) = 0)
    (ch : Fin 96) (R : Fin 34) (D : Fin 226) :
    k1_pay5 (F := Ideal) (k1_pay4 i xc xp xn wv) bv (ix3 R D ch) = vpad X W B n ch (s.val * 32 + R.val) D.val := by
  have hR := R.isLt
  have hD := D.isLt
  have hs' := s.isLt
  rw [pay5_raw]
  have h0 : Scalar.cmpi CmpIPredicate.eq (BitVec.ofNat 32 (i 1).val) 0#32 = if s.val = 0 then 1#1 else 0#1 := by
    rw [hs]; exact (by decide : ∀ s : Fin 7, Scalar.cmpi CmpIPredicate.eq (BitVec.ofNat 32 s.val) 0#32 = if s.val = 0 then 1#1 else 0#1) s
  have h6 : Scalar.cmpi CmpIPredicate.eq (BitVec.ofNat 32 (i 1).val) 6#32 = if s.val = 6 then 1#1 else 0#1 := by
    rw [hs]; exact (by decide : ∀ s : Fin 7, Scalar.cmpi CmpIPredicate.eq (BitVec.ofNat 32 s.val) 6#32 = if s.val = 6 then 1#1 else 0#1) s
  unfold vpad
  by_cases c0 : D.val < 1
  · rw [if_pos c0, dif_neg (by omega)]
  rw [if_neg c0]
  by_cases c1 : D.val - 1 < 224
  swap
  · rw [if_neg c1, dif_neg (by omega)]
  rw [if_pos c1, hbv, hB, add_zero]
  have eD : (⟨(R.val * 224 + (D.val - 1)) % 224, Nat.mod_lt _ (by norm_num)⟩ : Fin 224) = ⟨D.val - 1, by omega⟩ := Fin.ext (by simp only; omega)
  by_cases t0 : R.val = 0
  · refine (Finset.sum_congr rfl fun k _ => congrArg (· * _) (if_pos (show (R.val * 224 + (D.val - 1)) / 224 < 1 by omega))).trans ?_
    by_cases z : s.val = 0
    · rw [dif_neg (by omega)]
      exact Finset.sum_eq_zero fun k _ => by beta_reduce; rw [h0, if_pos z, Scalar.select, if_pos (by decide), zero_mul]
    · rw [dif_pos (by omega)]
      unfold lin
      rw [hB, add_zero]
      refine Finset.sum_congr rfl fun k _ => ?_
      beta_reduce
      rw [hwv, eD, h0, if_neg z, Scalar.select, if_neg (by decide), hxp z]
      refine congrArg (fun R => X (ix4 n k R _) * _) (Fin.ext ?_)
      simp only <;> omega
  refine (Finset.sum_congr rfl fun k _ => congrArg (· * _) (if_neg (show ¬ (R.val * 224 + (D.val - 1)) / 224 < 1 by omega))).trans ?_
  by_cases t1 : R.val - 1 < 32
  · refine (Finset.sum_congr rfl fun k _ => congrArg (· * _) (dif_pos (show (R.val * 224 + (D.val - 1)) / 224 - 1 < 32 by omega))).trans ?_
    rw [dif_pos (by omega)]
    unfold lin
    rw [hB, add_zero]
    refine Finset.sum_congr rfl fun k _ => ?_
    beta_reduce
    rw [hwv, hxc, eD]
    refine congrArg (fun R => X (ix4 n k R _) * _) (Fin.ext ?_)
    simp only <;> omega
  · refine (Finset.sum_congr rfl fun k _ => congrArg (· * _) (dif_neg (show ¬ (R.val * 224 + (D.val - 1)) / 224 - 1 < 32 by omega))).trans ?_
    by_cases z : s.val = 6
    · rw [dif_neg (by omega)]
      exact Finset.sum_eq_zero fun k _ => by beta_reduce; rw [h6, if_pos z, Scalar.select, if_pos (by decide), zero_mul]
    · rw [dif_pos (by omega)]
      unfold lin
      rw [hB, add_zero]
      refine Finset.sum_congr rfl fun k _ => ?_
      beta_reduce
      rw [hwv, eD, h6, if_neg z, Scalar.select, if_neg (by decide), hxn z]
      refine congrArg (fun R => X (ix4 n k R _) * _) (Fin.ext ?_)
      simp only <;> omega

end Cert.Value
end
-- ==== Proof.Value.Pool.lean ====
/- The first call's payloads at an index: the transposed strip, and the keys and values averaged over blocks of eight by
   eight pixels. -/
module

public import proofs.«01_k».proof.Proof.Value.Spec

@[expose] public section

noncomputable section

namespace Cert.Value

open Cert.KernelIdeal Cert.KernelIdeal.Gen
open Idealize.ShloMosaic

/-- A sum over the indices with a property, which two coordinates number, is a double sum over these. -/
theorem sum_pairs {ι : Type} [Fintype ι] {a b : ℕ} (p : ι → Prop) [DecidablePred p] (e : Fin a → Fin b → ι) (f : ι → Fin a) (g : ι → Fin b)
    (hp : ∀ i k, p (e i k)) (hf : ∀ i k, f (e i k) = i) (hg : ∀ i k, g (e i k) = k) (he : ∀ j, p j → e (f j) (g j) = j) (x : ι → EReal) :
    ∑ j ∈ Finset.univ.filter p, x j = ∑ i : Fin a, ∑ k : Fin b, x (e i k) := by
  rw [← Finset.sum_product' Finset.univ Finset.univ fun i k => x (e i k)]
  refine Finset.sum_bij' (fun j _ => (f j, g j)) (fun q _ => e q.1 q.2) ?_ ?_ ?_ ?_ ?_
  · exact fun j _ => by simp
  · exact fun q _ => by simpa using hp q.1 q.2
  · exact fun j hj => he j (Finset.mem_filter.1 hj).2
  · exact fun q _ => Prod.ext (hf q.1 q.2) (hg q.1 q.2)
  · exact fun j hj => congrArg x (he j (Finset.mem_filter.1 hj).2).symm

/-- The first call's second result: the strip with its channels last. -/
theorem pay2_apply (x : Vec Ideal S1x96x32x224 .f32) (r : Fin 32) (C : Fin 224) (k : Fin 96) :
    k0_pay2 (F := Ideal) x (ix4 0 r C k) = x (ix4 0 k r C) := by
  pointwise [k0_pay2, k0_pay1]

/-- The reduction over the block's rows and columns is a double sum. -/
theorem block_sum (v : S4x8x7x4x8x192.Idx → EReal) (p q : Fin 4) (u : Fin 7) (j : Fin 192) :
    Ideal.reduceAdd reduces_S4x8x7x4x8x192_S4x7x4x192 v (ix4 p u q j) = ∑ i : Fin 8, ∑ k : Fin 8, v (ix6 p i u q k j) := by
  have h := reduces_S4x8x7x4x8x192_S4x7x4x192.reducesTo
  refine sum_pairs _ (fun i k => ix6 p i u q k j) (fun i => i 1) (fun i => i 4) ?_ (fun _ _ => rfl) (fun _ _ => rfl) ?_ v
  · intro i k
    funext b
    fin_cases b <;> rfl
  · intro i hi
    change h.drop i = _ at hi
    have e := fun b : Fin 4 => congrArg Fin.val (congrFun hi b)
    have e0 := (h.drop_apply_val_of_eq i 0 0).symm.trans (e 0)
    have e1 := (h.drop_apply_val_of_eq i 1 2).symm.trans (e 1)
    have e2 := (h.drop_apply_val_of_eq i 2 3).symm.trans (e 2)
    have e3 := (h.drop_apply_val_of_eq i 3 5).symm.trans (e 3)
    funext b
    fin_cases b
    · exact Fin.ext e0.symm
    · rfl
    · exact Fin.ext e1.symm
    · exact Fin.ext e2.symm
    · rfl
    · exact Fin.ext e3.symm

/-- The first call's first result: the projections' average over the block. -/
theorem pay0_apply (x : Vec Ideal S1x96x32x224 .f32) (w : Vec Ideal S96x192 .f32) (b : Vec Ideal S1x192 .f32) (p q : Fin 4) (u : Fin 7) (j : Fin 192) :
    k0_pay3 (F := Ideal) x w b (ix6 0 0 p u q j)
      = Ideal.div (∑ i : Fin 8, ∑ k : Fin 8, (∑ c : Fin 96, x (ix4 0 c ⟨p.val * 8 + i.val, by omega⟩ ⟨u.val * 32 + (q.val * 8 + k.val), by omega⟩) * w (ix2 c j)
          + b (ix2 0 j))) (Ideal.ofBits .f32 0x42800000#32) := by
  pointwise [k0_pay3, k0_pay1]
  rw [block_sum]
  refine congrArg (Ideal.div · _) (Finset.sum_congr rfl fun i _ => Finset.sum_congr rfl fun k _ => ?_)
  pointwise []
  refine congrArg (· + _) (Finset.sum_congr rfl fun c _ => ?_)
  congr 3
  all_goals exact Fin.ext (by simp only <;> omega)

end Cert.Value
end
-- ==== Proof.Value.Call0.lean ====
/- The first call's results: the pooled keys and values and the image with its channels last. -/
module

public import proofs.«01_k».proof.Proof.Value.Pool
public import proofs.«01_k».proof.Proof.KernelIdeal.Run
public import Idealize.ShloMosaic.Lib.Pipeline.ValueKit.Geometry

@[expose] public section

noncomputable section

namespace Cert.Value

open Cert.KernelIdeal Cert.KernelIdeal.Gen
open Idealize.ShloMosaic
open Idealize.ShloMosaic.TcCoe
open Idealize.ShloMosaic.Pipeline (Dat Window)

variable (V : Dev nD → Valuation τ sig (Elt Ideal)) (c : Dev nD)

/-- The image with its channels last. -/
def chLast (X : (⟨4, ![2, 96, 224, 224]⟩ : Shape).Idx → EReal) : (⟨4, ![2, 224, 224, 96]⟩ : Shape).Idx → EReal :=
  fun j => X (ix4 (j 0) (j 3) (j 1) (j 2))

/-- The image block of a grid point. -/
theorem index0_0 : ∀ t : Fin cfg0.N, win0_0.index t = ![t.val / 7, 0, t.val % 7, 0] := (by decide +kernel : ∀ t : Fin grid0.N, _)
/-- The weights' block. -/
theorem index0_1 : ∀ t : Fin cfg0.N, win0_1.index t = ![0, 0] := (by decide +kernel : ∀ t : Fin grid0.N, _)
/-- The bias's block. -/
theorem index0_2 : ∀ t : Fin cfg0.N, win0_2.index t = ![0, 0] := (by decide +kernel : ∀ t : Fin grid0.N, _)
/-- The pooled block of a grid point. -/
theorem index0_3 : ∀ t : Fin cfg0.N, win0_3.index t = ![t.val / 7, t.val % 7, 0, 0, 0, 0] := (by decide +kernel : ∀ t : Fin grid0.N, _)
/-- The transposed block of a grid point. -/
theorem index0_4 : ∀ t : Fin cfg0.N, win0_4.index t = ![t.val / 7, t.val % 7, 0, 0] := (by decide +kernel : ∀ t : Fin grid0.N, _)

/-- The first call's second result. -/
theorem call0_xn : (Run.dat0 V c).arrAt 4 cfg0.N = chLast (V c (Proc.devRef .tc main_arg0)) := by
  refine (Run.dat0 V c).arrAt_eq_of_covers 4 _ (by decide +kernel) fun t hf y => ?_
  blk_simp
  rw [Run.after0_4]
  change S1x32x224x96.Idx at y
  obtain ⟨r, C, k, rfl⟩ : ∃ (r : Fin 32) (C : Fin 224) (k : Fin 96), y = ix4 (0 : Fin 1) r C k :=
    ⟨y 1, y 2, y 3, (eq_ix4 y).trans (congrArg (ix4 · _ _ _) (Subsingleton.elim (α := Fin 1) _ _))⟩
  rw [pay2_apply]
  blk_simp [Run.iblk0]
  refine congrArg (V c (Proc.devRef .tc main_arg0)) ?_
  blk_ext [index0_0, index0_4]

variable {X : (⟨4, ![2, 96, 224, 224]⟩ : Shape).Idx → EReal} {W : (⟨2, ![96, 288]⟩ : Shape).Idx → EReal} {B : (⟨1, ![288]⟩ : Shape).Idx → EReal}

/-- The pooled keys and values, arranged as the first call leaves them. -/
def kvArr (X : (⟨4, ![2, 96, 224, 224]⟩ : Shape).Idx → EReal) (W : (⟨2, ![96, 288]⟩ : Shape).Idx → EReal) (B : (⟨1, ![288]⟩ : Shape).Idx → EReal) :
    (⟨6, ![2, 7, 4, 7, 4, 192]⟩ : Shape).Idx → EReal :=
  fun j => pool X W B (j 0) ⟨(j 1).val * 7 + (j 3).val, by have h1 : (j 1).val < 7 := (j 1).isLt; have h3 : (j 3).val < 7 := (j 3).isLt; omega⟩ (j 2) (j 4) (j 5)

/-- The first call's first result. -/
theorem call0_kv (hX : V c (Proc.devRef .tc main_arg0) = X)
    (hW : ∀ (k : Fin 96) (j : Fin 192), (V c (Proc.devRef .tc main_v0) : Vec Ideal S96x192 .f32) (ix2 k j) = W (ix2 k ⟨96 + j.val, by omega⟩))
    (hB : ∀ j : Fin 192, (V c (Proc.devRef .tc main_v2) : Vec Ideal S1x192 .f32) (ix2 0 j) = B (ix1 ⟨96 + j.val, by omega⟩)) :
    (Run.dat0 V c).arrAt 3 cfg0.N = kvArr X W B := by
  refine (Run.dat0 V c).arrAt_eq_of_covers 3 _ (by decide +kernel) fun t hf y => ?_
  blk_simp
  rw [Run.after0_3]
  change S1x1x4x7x4x192.Idx at y
  obtain ⟨p, u, q, j, rfl⟩ : ∃ (p : Fin 4) (u : Fin 7) (q : Fin 4) (j : Fin 192), y = ix6 (0 : Fin 1) (0 : Fin 1) p u q j :=
    ⟨y 2, y 3, y 4, y 5,
      (eq_ix6 y).trans (congrArg₂ (ix6 · · _ _ _ _) (Subsingleton.elim (α := Fin 1) _ _) (Subsingleton.elim (α := Fin 1) _ _))⟩
  rw [pay0_apply]
  unfold kvArr pool lin
  refine congrArg (Ideal.div · _) (Finset.sum_congr rfl fun i _ => Finset.sum_congr rfl fun k _ => ?_)
  refine congrArg₂ (· + ·) (Finset.sum_congr rfl fun d _ => congrArg₂ (· * ·) ?_ ?_) ?_
  · blk_simp [Run.iblk0]
    refine (congrFun hX _).trans (congrArg X ?_)
    blk_ext [index0_0, index0_3]
  · blk_simp [Run.iblk0]
    refine Eq.trans ?_ ((hW d j).trans (congrArg W ?_))
    · refine congrArg (V c (Proc.devRef .tc main_v0)) ?_
      blk_ext [index0_1]
    · blk_ext [index0_3]
  · blk_simp [Run.iblk0]
    refine Eq.trans ?_ ((hB j).trans (congrArg B ?_))
    · refine congrArg (V c (Proc.devRef .tc main_v2)) ?_
      blk_ext [index0_2]
    · blk_ext [index0_3]

end Cert.Value
end
-- ==== Proof.Value.Call1.lean ====
/- The second call's result: the output, element by element. -/
module

public import proofs.«01_k».proof.Proof.Value.Blocks
public import proofs.«01_k».proof.Proof.Value.Body
public import proofs.«01_k».proof.Proof.Value.Conv
public import proofs.«01_k».proof.Proof.Value.Call0

@[expose] public section

noncomputable section

namespace Cert.Value

open Cert.KernelIdeal Cert.KernelIdeal.Gen
open Idealize.ShloMosaic
open Idealize.ShloMosaic.TcCoe
open Idealize.ShloMosaic.Pipeline (Dat Window)

variable (V : Dev nD → Valuation τ sig (Elt Ideal)) (a : (pcfg1 (F := Ideal)).Adm) (c : Dev nD)
variable (X : (⟨4, ![2, 96, 224, 224]⟩ : Shape).Idx → EReal) (W : (⟨2, ![96, 288]⟩ : Shape).Idx → EReal) (B : (⟨1, ![288]⟩ : Shape).Idx → EReal)
  (WL : (⟨4, ![96, 1, 3, 3]⟩ : Shape).Idx → EReal) (WO : (⟨2, ![96, 96]⟩ : Shape).Idx → EReal) (BO : (⟨1, ![96]⟩ : Shape).Idx → EReal)
  (ix : Fin 2 → Fin 49 → Fin 4 → Fin 49)

/-- What the second call is entered with. -/
structure Entry : Prop where
  xn : V c (Proc.devRef .tc main_v3_1) = chLast X
  kv : V c (Proc.devRef .tc main_v3_0) = kvArr X W B
  wq : ∀ k x : Fin 96, (V c (Proc.devRef .tc main_v50) : Vec Ideal S96x96 .f32) (ix2 k x) = W (ix2 k ⟨x.val, by omega⟩)
  bq : ∀ x : Fin 96, (V c (Proc.devRef .tc main_v52) : Vec Ideal S1x96 .f32) (ix2 0 x) = B (ix1 ⟨x.val, by omega⟩)
  wv : ∀ k x : Fin 96, (V c (Proc.devRef .tc main_v53) : Vec Ideal S96x96 .f32) (ix2 k x) = W (ix2 k ⟨192 + x.val, by omega⟩)
  bv : ∀ x : Fin 96, (V c (Proc.devRef .tc main_v55) : Vec Ideal S1x96 .f32) (ix2 0 x) = B (ix1 ⟨192 + x.val, by omega⟩)
  wl : ∀ (dy dx : Fin 3) (ch : Fin 96), (V c (Proc.devRef .tc main_v49) : Vec Ideal S9x96 .f32) (ix2 ⟨3 * dy.val + dx.val, by omega⟩ ch) = WL (ix4 ch 0 dy dx)
  wo : V c (Proc.devRef .tc main_arg4) = WO
  bo : ∀ o : Fin 96, (V c (Proc.devRef .tc main_v56) : Vec Ideal S1x96 .f32) (ix2 0 o) = BO (ix1 o)
  heads : Heads (V c (Proc.devRef .tc main_v32)) (V c (Proc.devRef .tc main_v39)) (V c (Proc.devRef .tc main_v46))
  tab : ∀ (n : Fin 2) (w : Fin 49) (t : Fin 4), a.1 0 (ix3 n w t) = BitVec.ofNat 32 (ix n w t).val

/-- The window a pixel lies in. -/
def winOf (R C : Fin 224) : Fin 49 := ⟨R.val / 32 * 7 + C.val / 32, by omega⟩

/-- The output array. -/
def outArr (M : EReal) : (⟨4, ![2, 96, 224, 224]⟩ : Shape).Idx → EReal :=
  fun j => outp X W B WL WO BO (ix (j 0) (winOf (j 2) (j 3))) M (j 0) (j 1) (j 2) (j 3)

variable {V a c X W B WL WO BO ix}

/-- The keys of a window of the strip are the pooled keys of the windows it is routed to. -/
theorem keys_apply (E : Entry V a c X W B WL WO BO ix) (t : Fin grid1.N) (n : Fin 2) (s : Fin 7) (hn : grid1.coords t 0 = n) (hs : grid1.coords t 1 = s)
    (pw : Fin 7) (j : Fin 64) (x : Fin 192) (w : Fin 49) (hw : w.val = s.val * 7 + pw.val) :
    keys (quad (Run.kvs V a c t) pw) j x = kfun X W B (ix n w) n j x := by
  subst hn hs
  have hj := j.isLt
  unfold keys quad kfun
  rw [kvs_apply V a c t _ (ix (grid1.coords t 0) w ⟨j.val / 16, by omega⟩) (fun w' hw' => ?_), E.kv]
  · unfold kvArr
    refine congrArg (fun u => pool X W B (grid1.coords t 0) u _ _ x) (Fin.ext ?_)
    show (ix (grid1.coords t 0) w ⟨j.val / 16, by omega⟩).val / 7 * 7 + (ix (grid1.coords t 0) w ⟨j.val / 16, by omega⟩).val % 7 = _
    omega
  · have e : w' = w := Fin.ext (by simp only at hw'; omega)
    subst e
    refine (congrArg (fun u => a.1 0 (ix3 _ w' u)) (Fin.ext ?_)).trans (E.tab _ w' ⟨j.val / 16, by omega⟩)
    simp only <;> omega

/-- The body's output at an index, from what its blocks hold. -/
theorem out_apply (i : grid1.Coords) (xp xn : Vec Ideal S1x1x224x96 .f32) (xc : Vec Ideal S1x32x224x96 .f32) (kv : Fin 28 → Vec Ideal S1x1x4x1x4x192 .f32)
    (wq : Vec Ideal S96x96 .f32) (bq : Vec Ideal S1x96 .f32) (wv : Vec Ideal S96x96 .f32) (bv : Vec Ideal S1x96 .f32) (wl : Vec Ideal S9x96 .f32)
    (bo : Vec Ideal S1x96 .f32) (mk : Vec Ideal S512x96 .f32) (g : Vec Ideal S512x8 .f32) (h : Vec Ideal S8x96 .f32) (n : Fin 2) (s : Fin 7)
    (hs : (i 1).val = s.val)
    (hxc : ∀ (r : Fin 32) (C : Fin 224) (k : Fin 96), xc (ix4 0 r C k) = X (ix4 n k ⟨s.val * 32 + r.val, by omega⟩ C))
    (hxp : ∀ (h : s.val ≠ 0) (C : Fin 224) (k : Fin 96), xp (ix4 0 0 C k) = X (ix4 n k ⟨s.val * 32 - 1, by omega⟩ C))
    (hxn : ∀ (h : s.val ≠ 6) (C : Fin 224) (k : Fin 96), xn (ix4 0 0 C k) = X (ix4 n k ⟨s.val * 32 + 32, by omega⟩ C))
    (hk : ∀ (pw : Fin 7) (j : Fin 64) (x : Fin 192), keys (quad kv pw) j x = kfun X W B (ix n ⟨s.val * 7 + pw.val, by omega⟩) n j x)
    (hwq : ∀ k x : Fin 96, wq (ix2 k x) = W (ix2 k ⟨x.val, by omega⟩)) (hbq : ∀ x : Fin 96, bq (ix2 0 x) = B (ix1 ⟨x.val, by omega⟩))
    (hwv : ∀ k x : Fin 96, wv (ix2 k x) = W (ix2 k ⟨192 + x.val, by omega⟩)) (hbv : ∀ x : Fin 96, bv (ix2 0 x) = B (ix1 ⟨192 + x.val, by omega⟩))
    (hwl : ∀ (dy dx : Fin 3) (ch : Fin 96), wl (ix2 ⟨3 * dy.val + dx.val, by omega⟩ ch) = WL (ix4 ch 0 dy dx))
    (hbo : ∀ o : Fin 96, bo (ix2 0 o) = BO (ix1 o)) (H : Heads mk g h)
    (hF : Finite X W B) (hB : ∀ ch : Fin 96, B (ix1 ⟨192 + ch.val, by omega⟩) = 0)
    {M : EReal} (hM : IsReal M) (o : Fin 96) (r c' : Fin 32) (pw : Fin 7) :
    Run.out1 (F := Ideal) i xp xc xn kv wq bq wv bv wl WO bo mk g h (ix4 0 o r ⟨pw.val * 32 + c'.val, by omega⟩)
      = outp X W B WL WO BO (ix n ⟨s.val * 7 + pw.val, by omega⟩) M n o ⟨s.val * 32 + r.val, by omega⟩ ⟨pw.val * 32 + c'.val, by omega⟩ := by
  have hq : ∀ (r : Fin 32) (pw : Fin 7) (c' : Fin 32) (x : Fin 96), k1_pay3 (F := Ideal) xc wq bq (ix4 r pw c' x)
      = qfun X W B n ⟨s.val * 32 + r.val, by omega⟩ ⟨pw.val * 32 + c'.val, by omega⟩ x := by
    intro r pw c' x
    rw [pay3_apply, hbq]
    unfold qfun lin
    refine congrArg (fun u => (u + _) * _) (Finset.sum_congr rfl fun k _ => ?_)
    rw [hxc, hwq]
  have hl : ∀ (r : Fin 32) (C : Fin 224) (ch : Fin 96),
      Run.lepe1 (F := Ideal) i xp xn xc wv bv wl (ix3 r C ch) = lepe X W B WL n ch ⟨s.val * 32 + r.val, by omega⟩ C := by
    intro r C ch
    rw [lepe1_apply i _ _ _ _ _ _ (fun R D => vpad X W B n ch (s.val * 32 + R) D) (fun dy dx => WL (ix4 ch 0 dy dx)) r C ch
      (fun R D => pay5_apply i _ _ _ _ _ n s hs hxc hxp hxn hwv hbv hB ch R D) (fun dy dx => hwl dy dx ch)]
    unfold lepe
    simp only [Nat.add_assoc]
  have hm : k1_pay10 (F := Ideal) mk = mk := shapeCast_id _ _
  unfold Run.out1 Run.out28
  rw [hm, join1_apply _ _ _ kv _ _ _ _ H (fun r pw c' x => by rw [hq]; exact qfun_real hF _ _ _ _)
    (fun pw j x => by rw [hk]; exact kfun_real hF _ _ _ _) hM r c' pw o, hbo]
  unfold outp
  refine congrArg (· + _) (Finset.sum_congr rfl fun ch _ => ?_)
  rw [hl]
  have hq' : (fun x => k1_pay3 (F := Ideal) xc wq bq (ix4 r pw c' x))
      = qfun X W B n ⟨s.val * 32 + r.val, by omega⟩ ⟨pw.val * 32 + c'.val, by omega⟩ := funext fun x => hq r pw c' x
  have hk' : keys (quad kv pw) = kfun X W B (ix n ⟨s.val * 7 + pw.val, by omega⟩) n := funext fun j => funext fun x => hk pw j x
  rw [hq', hk']

/-- The block the body leaves at an index. -/
theorem oblk_apply (E : Entry V a c X W B WL WO BO ix) (hF : Finite X W B) (hB : ∀ ch : Fin 96, B (ix1 ⟨192 + ch.val, by omega⟩) = 0)
    {M : EReal} (hM : IsReal M) (t : Fin grid1.N) (n : Fin 2) (s : Fin 7) (hn : grid1.coords t 0 = n) (hs : grid1.coords t 1 = s)
    (hn' : t.val / 7 = n.val) (hs' : t.val % 7 = s.val) (o : Fin 96) (r c' : Fin 32) (pw : Fin 7) :
    Run.oblk1 V a c t (ix4 0 o r ⟨pw.val * 32 + c'.val, by omega⟩)
      = outp X W B WL WO BO (ix n ⟨s.val * 7 + pw.val, by omega⟩) M n o ⟨s.val * 32 + r.val, by omega⟩ ⟨pw.val * 32 + c'.val, by omega⟩ := by
  unfold Run.oblk1
  rw [whole_31, whole_32, whole_33, whole_34, whole_35, whole_36, whole_37, whole_38, whole_39, whole_40, E.wo]
  exact out_apply (grid1.coords t) _ _ _ _ _ _ _ _ _ _ _ _ _ n s (congrArg Fin.val hs)
    (fun r C k => (xc_apply V a c t n s hn' hs' r C k).trans (congrFun E.xn _))
    (fun _ C k => (xp_apply V a c t n s hn' hs' C k).trans (congrFun E.xn _))
    (fun h C k => (xn_apply V a c t n s hn' hs' h C k).trans (congrFun E.xn _))
    (fun pw j x => keys_apply E t n s hn hs pw j x ⟨s.val * 7 + pw.val, by omega⟩ rfl) E.wq E.bq E.wv E.bv E.wl E.bo E.heads hF hB hM o r c' pw

/-- Some admissible tables. -/
def adm0 : (pcfg1 (F := Ideal)).Adm := ⟨fun k => match k with | ⟨0, _⟩ => fun _ => (0#32 : BitVec 32), Run.ok1_of_range _ fun _ => ⟨0, rfl⟩⟩

/-- The output's blocks cover it. -/
theorem covers1 : ((pcfg1.at adm0).win 41).Covers := by decide +kernel

/-- The second call's result. -/
theorem call1_out (E : Entry V a c X W B WL WO BO ix) (hF : Finite X W B) (hB : ∀ ch : Fin 96, B (ix1 ⟨192 + ch.val, by omega⟩) = 0)
    {M : EReal} (hM : IsReal M) : (Run.dat1 V a c).arrAt 41 (pcfg1.at a).N = outArr X W B WL WO BO ix M := by
  have hcov : ((pcfg1.at a).win 41).Covers := covers1
  refine (Run.dat1 V a c).arrAt_eq_of_covers 41 _ hcov fun t hf y => ?_
  blk_simp
  rw [Run.after1_out]
  change S1x96x32x224.Idx at y
  obtain ⟨o, r, C, rfl⟩ : ∃ (o : Fin 96) (r : Fin 32) (C : Fin 224), y = ix4 (0 : Fin 1) o r C :=
    ⟨y 1, y 2, y 3, (eq_ix4 y).trans (congrArg (ix4 · _ _ _) (Subsingleton.elim (α := Fin 1) _ _))⟩
  have key : ∀ (pw : Fin 7) (c' : Fin 32), pw.val * 32 + c'.val < 224 := fun pw c' => by omega
  obtain ⟨pw, c', rfl⟩ : ∃ (pw : Fin 7) (c' : Fin 32), C = ⟨pw.val * 32 + c'.val, key pw c'⟩ :=
    ⟨⟨C.val / 32, by omega⟩, ⟨C.val % 32, by omega⟩, Fin.ext (by simp only <;> omega)⟩
  have h1 := coords1 t
  have hn2 : (grid1.coords t 0).val < 2 := (grid1.coords t 0).isLt
  have hs7 : (grid1.coords t 1).val < 7 := (grid1.coords t 1).isLt
  refine (oblk_apply E hF hB hM t (grid1.coords t 0) (grid1.coords t 1) rfl rfl h1.1.symm h1.2.symm o r c' pw).trans ?_
  have e : ((pcfg1.at a).win 41).index t = ![t.val / 7, 0, t.val % 7, 0] := index1_41 t
  have hj : (((pcfg1.at a).win 41).blk t).view.emb (ix4 (0 : Fin 1) o r ⟨pw.val * 32 + c'.val, by omega⟩)
      = (ix4 (grid1.coords t 0) o ⟨(grid1.coords t 1).val * 32 + r.val, by omega⟩ ⟨pw.val * 32 + c'.val, by omega⟩ : (⟨4, ![2, 96, 224, 224]⟩ : Shape).Idx) := by
    blk_ext [e]
  rw [hj]
  unfold outArr
  refine congrArg (fun w => outp X W B WL WO BO (ix (grid1.coords t 0) w) M (grid1.coords t 0) o _ _) (Fin.ext ?_)
  show (grid1.coords t 1).val * 7 + pw.val = ((grid1.coords t 1).val * 32 + r.val) / 32 * 7 + (pw.val * 32 + c'.val) / 32
  omega

end Cert.Value
end
-- ==== Proof.Value.Heads.lean ====
/- The three masks the second call is given: which head a key row, a channel and a head column belong to. -/
module

public import proofs.«01_k».proof.Proof.Value.Body
public import proofs.«01_k».proof.Proof.Gen.KernelIdeal.Regions

@[expose] public section

noncomputable section

namespace Cert.Value

open Cert.KernelIdeal Cert.KernelIdeal.Gen
open Idealize.ShloMosaic
open Idealize.ShloMosaic.TcCoe

/-- Division of words rounded down, as the host's lines compute it. -/
def floorDiv (s : Shape) (h : S_.BroadcastsInDim s (![] : Fin 0 → Fin s.rank)) (x : IVec s 32) (d : IVec S_ 32) : IVec s 32 :=
  select (andi (cmpi .ne (signi x) (broadcastInDim s ![] h (signi d)))
      (cmpi .ne (Host.remsi x (broadcastInDim s ![] h d)) (broadcastInDim s ![] h (constantI S_ 32 0#32))))
    (subi (Host.divsi x (broadcastInDim s ![] h d)) (broadcastInDim s ![] h (constantI S_ 32 1#32)))
    (Host.divsi x (broadcastInDim s ![] h d))

/-- The same on two words. -/
def floorDivWord (x d : BitVec 32) : BitVec 32 :=
  Scalar.select (IntOp.andi (IntOp.cmpi .ne (if x = 0 then 0 else if x.msb then -1 else 1) (if d = 0 then 0 else if d.msb then -1 else 1 : BitVec 32))
      (IntOp.cmpi .ne (IntOp.remsi .host x d) 0#32))
    (IntOp.subi (IntOp.divsi .host x d) 1#32) (IntOp.divsi .host x d)

/-- It acts entry by entry. -/
theorem floorDiv_apply (s : Shape) (h : S_.BroadcastsInDim s (![] : Fin 0 → Fin s.rank)) (x : IVec s 32) (d : BitVec 32) (i : s.Idx) :
    floorDiv s h x (constantI S_ 32 d) i = floorDivWord (x i) d := rfl

/-- The head of a channel: twelve channels to a head. -/
theorem floorDivWord_12 : ∀ ch : Fin 96, floorDivWord (BitVec.ofNat 32 ch.val) 12#32 = BitVec.ofNat 32 (ch.val / 12) := by decide +kernel

/-- The head of a key row: sixty-four rows to a head. -/
theorem floorDivWord_64 : ∀ J : Fin 512, floorDivWord (BitVec.ofNat 32 J.val) 64#32 = BitVec.ofNat 32 (J.val / 64) := by decide +kernel

variable (V : Valuation τ sig (Elt Ideal))

set_option maxRecDepth 8192 in
set_option maxHeartbeats 2000000 in
/-- The head of each channel. -/
theorem head96 (hv : V (Proc.devRef .tc main_v23) = iotaInDim S96 32 0) (hc : V (Proc.devRef .tc main_c) = constantI S_ 32 12#32) (ch : Fin 96) :
    (StableHlo.after hostOps1_1 V (Proc.devRef .tc main_v24) : Vec Ideal S96 .i32) (ix1 ch) = BitVec.ofNat 32 (ch.val / 12) := by
  simp only [hostOps1_1]
  after_results_simp
  rw [hv, hc]
  change floorDiv S96 bcast_S_S96 (iotaInDim S96 32 0) (constantI S_ 32 12#32) (ix1 ch) = _
  rw [floorDiv_apply]
  exact floorDivWord_12 ch

set_option maxRecDepth 8192 in
set_option maxHeartbeats 2000000 in
/-- The head of each key row. -/
theorem head512 (hv : V (Proc.devRef .tc main_v25) = iotaInDim S512 32 0) (hc : V (Proc.devRef .tc main_c_4) = constantI S_ 32 64#32) (J : Fin 512) :
    (StableHlo.after hostOps1_3 V (Proc.devRef .tc main_v26) : Vec Ideal S512 .i32) (ix1 J) = BitVec.ofNat 32 (J.val / 64) := by
  simp only [hostOps1_3]
  after_results_simp
  rw [hv, hc]
  change floorDiv S512 bcast_S_S512 (iotaInDim S512 32 0) (constantI S_ 32 64#32) (ix1 J) = _
  rw [floorDiv_apply]
  exact floorDivWord_64 J

set_option maxRecDepth 8192 in
set_option maxHeartbeats 2000000 in
/-- The numbers the division of channels is given. -/
theorem iota96 : StableHlo.after hostOps1 V (Proc.devRef .tc main_v23) = iotaInDim S96 32 0
    ∧ StableHlo.after hostOps1 V (Proc.devRef .tc main_c) = constantI S_ 32 12#32 := by
  simp only [hostOps1]
  constructor <;> after_results_simp

set_option maxRecDepth 8192 in
/-- The numbers the division of key rows is given. -/
theorem iota512 : StableHlo.after hostOps1_2 V (Proc.devRef .tc main_v25) = iotaInDim S512 32 0
    ∧ StableHlo.after hostOps1_2 V (Proc.devRef .tc main_c_4) = constantI S_ 32 64#32 := by
  simp only [hostOps1_2]
  constructor <;> after_results_simp

/-- Equality of two small numbers as words, read as a number. -/
theorem eqWord (a b : ℕ) (ha : a < 2 ^ 32) (hb : b < 2 ^ 32) :
    FloatOps.uitofp (F := Ideal) .f32 (IntOp.cmpi .eq (BitVec.ofNat 32 a) (BitVec.ofNat 32 b)) = (if a = b then 1 else 0 : EReal) := by
  by_cases h : a = b
  · subst h
    rw [if_pos rfl]
    show ((((IntOp.cmpi .eq (BitVec.ofNat 32 a) (BitVec.ofNat 32 a)).toNat : ℕ) : ℝ) : EReal) = 1
    rw [show IntOp.cmpi .eq (BitVec.ofNat 32 a) (BitVec.ofNat 32 a) = 1#1 by simp [IntOp.cmpi]]
    simp
  · rw [if_neg h]
    have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    show ((((IntOp.cmpi .eq (BitVec.ofNat 32 a) (BitVec.ofNat 32 b)).toNat : ℕ) : ℝ) : EReal) = 0
    rw [show IntOp.cmpi .eq (BitVec.ofNat 32 a) (BitVec.ofNat 32 b) = 0#1 by
      simp only [IntOp.cmpi]; rw [beq_false_of_ne hne]; rfl]
    simp

set_option maxRecDepth 8192 in
set_option maxHeartbeats 2000000 in
/-- The three masks. -/
theorem heads_host (h24 : ∀ ch : Fin 96, (V (Proc.devRef .tc main_v24) : Vec Ideal S96 .i32) (ix1 ch) = BitVec.ofNat 32 (ch.val / 12))
    (h26 : ∀ J : Fin 512, (V (Proc.devRef .tc main_v26) : Vec Ideal S512 .i32) (ix1 J) = BitVec.ofNat 32 (J.val / 64)) :
    Heads (StableHlo.after hostOps1_4 V (Proc.devRef .tc main_v32)) (StableHlo.after hostOps1_4 V (Proc.devRef .tc main_v39))
      (StableHlo.after hostOps1_4 V (Proc.devRef .tc main_v46)) := by
  simp only [hostOps1_4]
  constructor
  · intro J ch
    after_results_simp
    refine Eq.trans ?_ (eqWord (J.val / 64) (ch.val / 12) (by omega) (by omega))
    rw [← h24, ← h26]
    pointwise [] <;> rfl
  · intro J x
    after_results_simp
    refine Eq.trans ?_ (eqWord (J.val / 64) x.val (by omega) (by omega))
    rw [← h26]
    pointwise [] <;> rfl
  · intro x ch
    after_results_simp
    refine Eq.trans ?_ (eqWord x.val (ch.val / 12) (by omega) (by omega))
    rw [← h24]
    pointwise [] <;> rfl

end Cert.Value
end
-- ==== Proof.Value.Routing.lean ====
/- The windows each window is routed to: the two programs rank the same scores, so they name the same windows. -/
module

public import proofs.«01_k».proof.Proof.Value.Call0
public import proofs.«01_k».proof.Proof.Gen.KernelIdeal.Regions
public import proofs.«01_k».proof.Proof.Gen.ReferenceIdeal.Run

@[expose] public section

noncomputable section

namespace Cert.Value

open Cert.KernelIdeal Cert.KernelIdeal.Gen
open Idealize.ShloMosaic
open Idealize.ShloMosaic.TcCoe

/-- The window the ranking of the scores `x` names. -/
def route (x : Vec Ideal S2x49x49 .f32) (n : Fin 2) (w : Fin 49) (t : Fin 4) : Fin 49 :=
  (Run.topK_range (F := Ideal) (FloatOps.cmpfTotal .gt) x sliceFits_S2x49x49_S2x49x4 (ix3 n w t)).choose

/-- The ranking's word is that window's number. -/
theorem route_spec (x : Vec Ideal S2x49x49 .f32) (n : Fin 2) (w : Fin 49) (t : Fin 4) :
    (Host.topK S2x49x4 2 (FloatOps.cmpfTotal (F := Ideal) (φ := .f32) .gt) x sliceFits_S2x49x49_S2x49x4).2 (ix3 n w t) = BitVec.ofNat 32 (route x n w t).val :=
  (Run.topK_range (F := Ideal) (FloatOps.cmpfTotal .gt) x sliceFits_S2x49x49_S2x49x4 (ix3 n w t)).choose_spec

variable (V : Valuation τ sig (Elt Ideal)) (U : Valuation Cert.ReferenceIdeal.τ Cert.ReferenceIdeal.sig (Elt Ideal))

/-- A slice of a slice at an offset is the slice at that offset. -/
theorem slice_key (x : Vec Ideal S2x49x32x32x288 .f32) (h h' h'') :
    extractStridedSlice S2x49x32x32x96 ![0, 0, 0, 0, 0] (extractStridedSlice Cert.ReferenceIdeal.S2x49x32x32x192 ![0, 0, 0, 0, 96] x h) h'
      = extractStridedSlice S2x49x32x32x96 ![0, 0, 0, 0, 96] x h'' := by
  funext j
  obtain ⟨n, w, r, c, k, rfl⟩ : ∃ n w r c k, j = ix5 n w r c k := ⟨_, _, _, _, _, eq_ix5 j⟩
  pointwise [] <;> rfl

set_option maxRecDepth 8192 in
set_option maxHeartbeats 4000000 in
/-- The kernel's host lines and the reference rank the same scores. -/
theorem table_eq (hx : V (Proc.devRef .tc main_v3_1) = chLast (U (Proc.devRef .tc Cert.ReferenceIdeal.main_arg0)))
    (hw : V (Proc.devRef .tc main_arg1) = U (Proc.devRef .tc Cert.ReferenceIdeal.main_arg1))
    (hb : V (Proc.devRef .tc main_arg2) = U (Proc.devRef .tc Cert.ReferenceIdeal.main_arg2)) :
    (StableHlo.after hostOps1 V (Proc.devRef .tc main_indices) : Vec Ideal S2x49x4 .i32)
      = Cert.ReferenceIdeal.Value.res_main_indices U := by
  simp only [hostOps1]
  after_results_simp
  have ht : chLast (U (Proc.devRef .tc Cert.ReferenceIdeal.main_arg0)) = transpose S2x224x224x96 [0, 2, 3, 1] (U (Proc.devRef .tc Cert.ReferenceIdeal.main_arg0)) Cert.ReferenceIdeal.Gen.transposes_S2x96x224x224_S2x224x224x96_0_2_3_1 := by
    funext j
    obtain ⟨n, r, c, k, rfl⟩ : ∃ n r c k, j = ix4 n r c k := ⟨_, _, _, _, eq_ix4 j⟩
    pointwise [] <;> rfl
  rw [hx, hw, hb, ht]
  unfold Cert.ReferenceIdeal.Value.res_main_indices Cert.ReferenceIdeal.Value.res_main_v107 Cert.ReferenceIdeal.Value.res_main_v9
  rw [slice_key]
  rfl

end Cert.Value
end
-- ==== Proof.Value.Host.lean ====
/- What the second call is entered with, and so the kernel's result as a function of the arguments. -/
module

public import proofs.«01_k».proof.Proof.Value.Call1
public import proofs.«01_k».proof.Proof.Value.Heads
public import proofs.«01_k».proof.Proof.Value.Routing

@[expose] public section

noncomputable section

namespace Cert.Value

open Cert.KernelIdeal Cert.KernelIdeal.Gen
open Idealize.ShloMosaic
open Idealize.ShloMosaic.TcCoe

section stretches

variable (V : Valuation τ sig (Elt Ideal))

/-- The key and value part of the projection's matrix. -/
theorem host_wkv (k : Fin 96) (j : Fin 192) :
    (StableHlo.after hostOps0 V (Proc.devRef .tc main_v0) : Vec Ideal S96x192 .f32) (ix2 k j)
      = (V (Proc.devRef .tc main_arg1) : Vec Ideal S96x288 .f32) (ix2 k ⟨96 + j.val, by omega⟩) := by
  simp only [hostOps0]
  after_results_simp
  pointwise [] <;> rfl

/-- The key and value part of the projection's offset. -/
theorem host_bkv (j : Fin 192) :
    (StableHlo.after hostOps0 V (Proc.devRef .tc main_v2) : Vec Ideal S1x192 .f32) (ix2 0 j)
      = (V (Proc.devRef .tc main_arg2) : Vec Ideal S288 .f32) (ix1 ⟨96 + j.val, by omega⟩) := by
  simp only [hostOps0]
  after_results_simp
  pointwise [] <;> rfl

set_option maxRecDepth 8192 in
set_option maxHeartbeats 2000000 in
/-- The query part of the projection's matrix. -/
theorem host_wq (k x : Fin 96) :
    (StableHlo.after hostOps1_4 V (Proc.devRef .tc main_v50) : Vec Ideal S96x96 .f32) (ix2 k x)
      = (V (Proc.devRef .tc main_arg1) : Vec Ideal S96x288 .f32) (ix2 k ⟨x.val, by omega⟩) := by
  simp only [hostOps1_4]
  after_results_simp
  pointwise [] <;> rfl

set_option maxRecDepth 8192 in
set_option maxHeartbeats 2000000 in
/-- The query part of the projection's offset. -/
theorem host_bq (x : Fin 96) :
    (StableHlo.after hostOps1_4 V (Proc.devRef .tc main_v52) : Vec Ideal S1x96 .f32) (ix2 0 x)
      = (V (Proc.devRef .tc main_arg2) : Vec Ideal S288 .f32) (ix1 ⟨x.val, by omega⟩) := by
  simp only [hostOps1_4]
  after_results_simp
  pointwise [] <;> rfl

set_option maxRecDepth 8192 in
set_option maxHeartbeats 2000000 in
/-- The value part of the projection's matrix. -/
theorem host_wv (k x : Fin 96) :
    (StableHlo.after hostOps1_4 V (Proc.devRef .tc main_v53) : Vec Ideal S96x96 .f32) (ix2 k x)
      = (V (Proc.devRef .tc main_arg1) : Vec Ideal S96x288 .f32) (ix2 k ⟨192 + x.val, by omega⟩) := by
  simp only [hostOps1_4]
  after_results_simp
  pointwise [] <;> rfl

set_option maxRecDepth 8192 in
set_option maxHeartbeats 2000000 in
/-- The value part of the projection's offset. -/
theorem host_bv (x : Fin 96) :
    (StableHlo.after hostOps1_4 V (Proc.devRef .tc main_v55) : Vec Ideal S1x96 .f32) (ix2 0 x)
      = (V (Proc.devRef .tc main_arg2) : Vec Ideal S288 .f32) (ix1 ⟨192 + x.val, by omega⟩) := by
  simp only [hostOps1_4]
  after_results_simp
  pointwise [] <;> rfl

set_option maxRecDepth 8192 in
set_option maxHeartbeats 2000000 in
/-- The output's offset. -/
theorem host_bo (x : Fin 96) :
    (StableHlo.after hostOps1_4 V (Proc.devRef .tc main_v56) : Vec Ideal S1x96 .f32) (ix2 0 x)
      = (V (Proc.devRef .tc main_arg5) : Vec Ideal S96 .f32) (ix1 x) := by
  simp only [hostOps1_4]
  after_results_simp
  pointwise [] <;> rfl

set_option maxRecDepth 8192 in
set_option maxHeartbeats 2000000 in
/-- The convolution's weights, a row for each place in the window of nine. -/
theorem host_wl (dy dx : Fin 3) (ch : Fin 96) :
    (StableHlo.after hostOps1_4 V (Proc.devRef .tc main_v49) : Vec Ideal S9x96 .f32) (ix2 ⟨3 * dy.val + dx.val, by omega⟩ ch)
      = (V (Proc.devRef .tc main_arg3) : Vec Ideal S96x1x3x3 .f32) (ix4 ch 0 dy dx) := by
  simp only [hostOps1_4]
  after_results_simp
  have key : ∀ J : Fin 9, (shapeCast S9x96 (transpose S3x3x96 [1, 2, 0] (shapeCast S96x3x3 (V (Proc.devRef .tc main_arg3) : Vec Ideal S96x1x3x3 .f32) shapeCasts_S96x1x3x3_S96x3x3)
      transposes_S96x3x3_S3x3x96_1_2_0) shapeCasts_S3x3x96_S9x96 : Vec Ideal S9x96 .f32) (ix2 J ch)
      = (V (Proc.devRef .tc main_arg3) : Vec Ideal S96x1x3x3 .f32) (ix4 ch 0 ⟨J.val / 3, by omega⟩ ⟨J.val % 3, by omega⟩) := by
    intro J
    pointwise [] <;> rfl
  refine (key _).trans (congrArg₂ (fun a b => (V (Proc.devRef .tc main_arg3) : Vec Ideal S96x1x3x3 .f32) (ix4 ch 0 a b)) (Fin.ext ?_) (Fin.ext ?_))
  · show (3 * dy.val + dx.val) / 3 = dy.val
    omega
  · show (3 * dy.val + dx.val) % 3 = dx.val
    omega

end stretches

section whole

variable (m : (ℓ : Loc nD τ sig) → Buf (Elt Ideal) ℓ) (c : Dev nD)

/-- A buffer nothing on the host writes is at the last stretch what it was at launch. -/
theorem V6_keep (r : Ref sig .tc) (h : r ∉ hostOps0_W ∧ r ∉ ([main_v3_0, main_v3_1] : List (Ref sig .tc)) ∧ r ∉ hostOps1_W ∧ r ∉ hostOps1_1_W
      ∧ r ∉ hostOps1_2_W ∧ r ∉ hostOps1_3_W) :
    V6 m (Run.outsA m) c (Proc.devRef .tc r) = m ((c.tc : Thread nD τ).loc r) :=
  (V6_of m _ c r h.2.2.2.2.2).trans ((V5_of m _ c r h.2.2.2.2.1).trans ((V4_of m _ c r h.2.2.2.1).trans ((V3_of m _ c r h.2.2.1).trans
    ((V2_of m _ c r h.2.1).trans (V1_of m c r h.1)))))

/-- A result of the first call is at the second call what the first call left. -/
theorem V7_call0 (r : Ref sig .tc) (h : r ∉ hostOps1_W ∧ r ∉ hostOps1_1_W ∧ r ∉ hostOps1_2_W ∧ r ∉ hostOps1_3_W ∧ r ∉ hostOps1_4_W) :
    V7 m (Run.outsA m) c (Proc.devRef .tc r) = V2 m (Run.outsA m) c (Proc.devRef .tc r) :=
  (V7_of m _ c r h.2.2.2.2).trans ((V6_of m _ c r h.2.2.2.1).trans ((V5_of m _ c r h.2.2.1).trans ((V4_of m _ c r h.2.1).trans (V3_of m _ c r h.1))))

/-- The image, channels last, as the first call leaves it. -/
theorem V2_xn : V2 m (Run.outsA m) c (Proc.devRef .tc main_v3_1) = chLast (m ((c.tc : Thread nD τ).loc main_arg0)) := by
  refine (Function.update_self ..).trans ?_
  refine (Pipeline.afterRegion_arr (Run.dat0 (V1 m) c) (V1 m c) (launch0 (F := Ideal)).win.arr_inj 4).trans ?_
  refine (call0_xn (V1 m) c).trans ?_
  exact congrArg chLast (V1_of m c main_arg0 (by decide))

/-- The averaged keys and values, as the first call leaves them. -/
theorem V2_kv : V2 m (Run.outsA m) c (Proc.devRef .tc main_v3_0)
    = kvArr (m ((c.tc : Thread nD τ).loc main_arg0)) (m ((c.tc : Thread nD τ).loc main_arg1)) (m ((c.tc : Thread nD τ).loc main_arg2)) := by
  refine (Function.update_of_ne (by decide) _ _).trans ((Function.update_self ..).trans ?_)
  refine (Pipeline.afterRegion_arr (Run.dat0 (V1 m) c) (V1 m c) (launch0 (F := Ideal)).win.arr_inj 3).trans ?_
  exact call0_kv (V1 m) c (V1_of m c main_arg0 (by decide)) (fun k j => host_wkv (V0 m c) k j) (fun j => host_bkv (V0 m c) j)

variable (U : Valuation Cert.ReferenceIdeal.τ Cert.ReferenceIdeal.sig (Elt Ideal))

set_option maxHeartbeats 4000000 in
/-- What the second call is entered with: the reference's routing table among it. -/
theorem entry (hx : m ((c.tc : Thread nD τ).loc main_arg0) = U (Proc.devRef .tc Cert.ReferenceIdeal.main_arg0))
    (hw : m ((c.tc : Thread nD τ).loc main_arg1) = U (Proc.devRef .tc Cert.ReferenceIdeal.main_arg1))
    (hb : m ((c.tc : Thread nD τ).loc main_arg2) = U (Proc.devRef .tc Cert.ReferenceIdeal.main_arg2)) :
    Entry (V7 m (Run.outsA m)) (Run.adm1 m) c (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (route (Cert.ReferenceIdeal.Value.res_main_v107 U)) where
  xn := (V7_call0 m c main_v3_1 (by decide)).trans (V2_xn m c)
  kv := (V7_call0 m c main_v3_0 (by decide)).trans (V2_kv m c)
  wq := fun k x => (host_wq (V6 m (Run.outsA m) c) k x).trans (congrFun (V6_keep m c main_arg1 (by decide)) _)
  bq := fun x => (host_bq (V6 m (Run.outsA m) c) x).trans (congrFun (V6_keep m c main_arg2 (by decide)) _)
  wv := fun k x => (host_wv (V6 m (Run.outsA m) c) k x).trans (congrFun (V6_keep m c main_arg1 (by decide)) _)
  bv := fun x => (host_bv (V6 m (Run.outsA m) c) x).trans (congrFun (V6_keep m c main_arg2 (by decide)) _)
  wl := fun dy dx ch => (host_wl (V6 m (Run.outsA m) c) dy dx ch).trans (congrFun (V6_keep m c main_arg3 (by decide)) _)
  wo := (V7_of m _ c main_arg4 (by decide)).trans (V6_keep m c main_arg4 (by decide))
  bo := fun o => (host_bo (V6 m (Run.outsA m) c) o).trans (congrFun (V6_keep m c main_arg5 (by decide)) _)
  heads := heads_host (V6 m (Run.outsA m) c)
    (fun ch => (congrFun ((V6_of m _ c main_v24 (by decide)).trans (V5_of m _ c main_v24 (by decide))) _).trans
      (head96 (V3 m (Run.outsA m) c) (iota96 (V2 m (Run.outsA m) c)).1 (iota96 (V2 m (Run.outsA m) c)).2 ch))
    (fun J => head512 (V5 m (Run.outsA m) c) (iota512 (V4 m (Run.outsA m) c)).1 (iota512 (V4 m (Run.outsA m) c)).2 J)
  tab := fun n w t => by
    obtain rfl : c = (0 : Dev nD) := Subsingleton.elim _ _
    have e := (V7_of m (Run.outsA m) 0 main_indices (by decide)).trans ((V6_of m _ 0 main_indices (by decide)).trans
      ((V5_of m _ 0 main_indices (by decide)).trans (V4_of m _ 0 main_indices (by decide))))
    have e' := table_eq (V2 m (Run.outsA m) 0) U ((V2_xn m 0).trans (congrArg chLast hx))
      (((V2_of m _ 0 main_arg1 (by decide)).trans (V1_of m 0 main_arg1 (by decide))).trans hw)
      (((V2_of m _ 0 main_arg2 (by decide)).trans (V1_of m 0 main_arg2 (by decide))).trans hb)
    exact (congrFun (e.trans e') (ix3 n w t)).trans (route_spec _ n w t)

end whole

end Cert.Value
end
-- ==== Proof.Value.Finite.lean ====
/- What the precondition says of the arguments. -/
module

public import proofs.«01_k».proof.Proof.Value.Spec
public import proofs.«01_k».proof.Proof.Frames
public import Idealize.ShloMosaic.Lib.ReduceAll

@[expose] public section

noncomputable section

namespace Cert.Value

open Idealize.ShloMosaic
open Cert.Pre_usual_inputs Cert.Pre_usual_inputs.Facts

/-- Infinity's bits. -/
theorem ofBits_inf : Ideal.ofBits .f32 0x7F800000#32 = ⊤ := by
  simp [Ideal.ofBits, Ideal.ieee]

/-- A number below infinity in absolute value is real. -/
theorem real_of_abs {x : EReal} (h : FloatOps.cmpf (F := Ideal) (φ := .f32) .olt (FloatOps.absf (F := Ideal) (φ := .f32) x) (Ideal.ofBits .f32 0x7F800000#32) = 1#1) :
    IsReal x := by
  rw [ofBits_inf] at h
  have h' : max x (-x) < ⊤ := by
    by_contra hn
    have : FloatOps.cmpf (F := Ideal) (φ := .f32) .olt (FloatOps.absf (F := Ideal) (φ := .f32) x) (⊤ : EReal) = 0#1 := by
      show BitVec.ofBool (decide (max x (-x) < ⊤)) = 0#1
      rw [decide_eq_false hn]; rfl
    rw [this] at h
    exact absurd h (by decide)
  obtain ⟨h1, h2⟩ := max_lt_iff.1 h'
  induction x using EReal.rec with
  | bot => simp at h2
  | coe r => exact ⟨r, rfl⟩
  | top => simp at h1

/-- A number that compares equal to zero is zero. -/
theorem zero_of_eq {x : EReal} (h : FloatOps.cmpf (F := Ideal) (φ := .f32) .oeq x (Ideal.ofBits .f32 0x00000000#32) = 1#1) : x = 0 := by
  by_contra hn
  have e0 : Ideal.ofBits .f32 0x00000000#32 = 0 := by simp [Ideal.ofBits, Ideal.ieee]
  have : FloatOps.cmpf (F := Ideal) (φ := .f32) .oeq x (Ideal.ofBits .f32 0x00000000#32) = 0#1 := by
    rw [e0]
    show BitVec.ofBool (decide (x = 0)) = 0#1
    rw [decide_eq_false hn]; rfl
  rw [this] at h
  exact absurd h (by decide)

variable [Facts] (X : FVec Ideal S2x96x224x224 .f32) (W : FVec Ideal S96x288 .f32) (B : FVec Ideal S288 .f32) (WL : FVec Ideal S96x1x3x3 .f32)
  (WO : FVec Ideal S96x96 .f32) (BO : FVec Ideal S96 .f32)

/-- The precondition makes the queries and keys finite, and the values' offset zero. -/
theorem finite_of_pre (h : fn (F := Ideal) X W B WL WO BO (fun i => i.elim0) = 1#1) :
    Finite X W B ∧ ∀ ch : Fin 96, B (ix1 ⟨192 + ch.val, by omega⟩) = 0 := by
  unfold fn fn_part1 at h
  dsimp only at h
  obtain ⟨h, h4⟩ := IntOp.andi_eq_one.1 h
  obtain ⟨h, h3⟩ := IntOp.andi_eq_one.1 h
  obtain ⟨h1, h2⟩ := IntOp.andi_eq_one.1 h
  refine ⟨⟨fun i => ?_, fun k j => ?_, fun j => ?_⟩, fun ch => ?_⟩
  · exact real_of_abs (Host.reduce_andi_all _ _ _ _ _ h1 i)
  · have e : extractStridedSlice S96x192 ![0, 0] W slices_S96x288_S96x192_0_0 (ix2 k j) = W (ix2 k ⟨j.val, by omega⟩) := by
      pointwise [] <;> rfl
    exact e ▸ real_of_abs (Host.reduce_andi_all _ _ _ _ _ h2 (ix2 k j))
  · have e : extractStridedSlice S192 ![0] B slices_S288_S192_0 (ix1 j) = B (ix1 ⟨j.val, by omega⟩) := by
      pointwise [] <;> rfl
    exact e ▸ real_of_abs (Host.reduce_andi_all _ _ _ _ _ h3 (ix1 j))
  · have e : extractStridedSlice S96 ![192] B slices_S288_S96_192 (ix1 ch) = B (ix1 ⟨192 + ch.val, by omega⟩) := by
      pointwise [] <;> rfl
    exact e ▸ zero_of_eq (Host.reduce_andi_all _ _ _ _ _ h4 (ix1 ch))

end Cert.Value
end
-- ==== Proof.Value.Ref.lean ====
/- The reference's projection and image of values at an index. -/
module

public import proofs.«01_k».proof.Proof.Value.Routing

@[expose] public section

noncomputable section

namespace Cert.Value

open Cert.ReferenceIdeal Cert.ReferenceIdeal.Gen Cert.ReferenceIdeal.Value
open Idealize.ShloMosaic
open Idealize.ShloMosaic.TcCoe

variable (U : Valuation τ sig (Elt Ideal)) (X : (⟨4, ![2, 96, 224, 224]⟩ : Shape).Idx → EReal) (W : (⟨2, ![96, 288]⟩ : Shape).Idx → EReal)
  (B : (⟨1, ![288]⟩ : Shape).Idx → EReal)
  (hX : U (Proc.devRef .tc main_arg0) = X) (hW : U (Proc.devRef .tc main_arg1) = W) (hB : U (Proc.devRef .tc main_arg2) = B)

include hX hW hB in
/-- The projection of a pixel of a window. -/
theorem v7_apply (n : Fin 2) (w : Fin 49) (r c : Fin 32) (j : Fin 288) :
    (res_main_v7 U : Vec Ideal S2x49x32x32x288 .f32) (ix5 n w r c j)
      = lin X W B n ⟨w.val / 7 * 32 + r.val, by omega⟩ ⟨w.val % 7 * 32 + c.val, by omega⟩ j := by
  pointwise [res_main_v7]
  rw [hX, hW, hB]
  unfold lin
  refine congrArg (· + _) (Finset.sum_congr rfl fun k _ => ?_)
  congr 2

/-- The image of the values reads the projection in a pixel's window. -/
theorem v29_raw (n : Fin 2) (ch : Fin 96) (R C : Fin 224) :
    (res_main_v29 U : Vec Ideal S2x96x224x224 .f32) (ix4 n ch R C)
      = (res_main_v7 U : Vec Ideal S2x49x32x32x288 .f32) (ix5 n ⟨R.val / 32 * 7 + C.val / 32, by omega⟩ ⟨R.val % 32, by omega⟩ ⟨C.val % 32, by omega⟩
          ⟨96 + (96 + ch.val), by omega⟩) := by
  pointwise [res_main_v29, res_main_v9]

include hX hW hB in
/-- The image of the values. -/
theorem v29_apply (n : Fin 2) (ch : Fin 96) (R C : Fin 224) :
    (res_main_v29 U : Vec Ideal S2x96x224x224 .f32) (ix4 n ch R C) = lin X W B n R C ⟨192 + ch.val, by omega⟩ := by
  rw [v29_raw, v7_apply U X W B hX hW hB]
  have e1 : (R.val / 32 * 7 + C.val / 32) / 7 * 32 + R.val % 32 = R.val := by omega
  have e2 : (R.val / 32 * 7 + C.val / 32) % 7 * 32 + C.val % 32 = C.val := by omega
  have e3 : 96 + (96 + ch.val) = 192 + ch.val := by omega
  simp only [e1, e2, e3]

end Cert.Value
end
-- ==== Proof.Value.RefPool.lean ====
/- The reference's averaged keys and values, in the windows a window is routed to. -/
module

public import proofs.«01_k».proof.Proof.Value.Ref
public import proofs.«01_k».proof.Proof.Value.Pool

@[expose] public section

noncomputable section

namespace Cert.Value

open Cert.ReferenceIdeal Cert.ReferenceIdeal.Gen Cert.ReferenceIdeal.Value
open Idealize.ShloMosaic
open Idealize.ShloMosaic.TcCoe

variable (U : Valuation τ sig (Elt Ideal)) (X : (⟨4, ![2, 96, 224, 224]⟩ : Shape).Idx → EReal) (W : (⟨2, ![96, 288]⟩ : Shape).Idx → EReal)
  (B : (⟨1, ![288]⟩ : Shape).Idx → EReal)
  (hX : U (Proc.devRef .tc main_arg0) = X) (hW : U (Proc.devRef .tc main_arg1) = W) (hB : U (Proc.devRef .tc main_arg2) = B)

/-- The averaged keys and values of every window. -/
def pooledR : Vec Ideal S2x49x16x192 .f32 :=
  transpose S2x49x16x192 [0, 1, 3, 2] (shapeCast S2x49x192x16 (Host.divf (F := Ideal) (φ := .f32) (Host.reduceAdd (F := Ideal) (φ := .f32)
    (shapeCast S98x192x4x8x4x8 (shapeCast S98x192x32x32 (transpose S2x49x192x32x32 [0, 1, 4, 2, 3] (res_main_v9 U)
      transposes_S2x49x32x32x192_S2x49x192x32x32_0_1_4_2_3) shapeCasts_S2x49x192x32x32_S98x192x32x32) shapeCasts_S98x192x32x32_S98x192x4x8x4x8)
    (constant S_ .f32 0x00000000#32) reducesTo_S98x192x4x8x4x8_S98x192x4x4_d3_5 h_S_) (broadcastInDim S98x192x4x4 ![] bcast_S_S98x192x4x4 (constant S_ .f32 0x42800000#32)))
    shapeCasts_S98x192x4x4_S2x49x192x16) transposes_S2x49x192x16_S2x49x16x192_0_1_3_2

/-- The reduction over a block's rows and columns is a double sum. -/
theorem block_sumR (v : S98x192x4x8x4x8.Idx → EReal) (w : Fin 98) (x : Fin 192) (p q : Fin 4) :
    ∑ i ∈ Finset.univ.filter (fun i => reducesTo_S98x192x4x8x4x8_S98x192x4x4_d3_5.drop i = ix4 w x p q), v i
      = ∑ i : Fin 8, ∑ k : Fin 8, v (ix6 w x p i q k) := by
  have h := reducesTo_S98x192x4x8x4x8_S98x192x4x4_d3_5
  refine sum_pairs _ (fun i k => ix6 w x p i q k) (fun i => i 3) (fun i => i 5) ?_ (fun _ _ => rfl) (fun _ _ => rfl) ?_ v
  · intro i k
    funext b
    fin_cases b <;> rfl
  · intro i hi
    change h.drop i = _ at hi
    have e := fun b : Fin 4 => congrArg Fin.val (congrFun hi b)
    have e0 := (h.drop_apply_val_of_eq i 0 0).symm.trans (e 0)
    have e1 := (h.drop_apply_val_of_eq i 1 1).symm.trans (e 1)
    have e2 := (h.drop_apply_val_of_eq i 2 2).symm.trans (e 2)
    have e3 := (h.drop_apply_val_of_eq i 3 4).symm.trans (e 3)
    funext b
    fin_cases b
    · exact Fin.ext e0.symm
    · exact Fin.ext e1.symm
    · exact Fin.ext e2.symm
    · rfl
    · exact Fin.ext e3.symm
    · rfl

include hX hW hB in
/-- The averaged keys and values, at an index. -/
theorem pooledR_apply (n : Fin 2) (u : Fin 49) (j : Fin 16) (x : Fin 192) :
    pooledR U (ix4 n u j x) = pool X W B n u ⟨j.val / 4, by omega⟩ ⟨j.val % 4, by omega⟩ x := by
  pointwise [pooledR]
  unfold pool Ideal.hostReduceAdd
  refine congrArg (Ideal.div · _) ?_
  rw [zero_add, block_sumR]
  refine Finset.sum_congr rfl fun i _ => Finset.sum_congr rfl fun k _ => ?_
  pointwise [res_main_v9]
  refine Eq.trans ?_ (v7_apply U X W B hX hW hB n u ⟨j.val / 4 * 8 + i.val, by omega⟩ ⟨j.val % 4 * 8 + k.val, by omega⟩ ⟨96 + x.val, by omega⟩)
  rfl

/-- The words that name the windows, none being negative. -/
def wordsR : Vec Ideal S2x49x4x1 .i32 :=
  broadcastInDim S2x49x4x1 ![0, 1, 2] bcast_S2x49x4_S2x49x4x1_0_1_2
    (select (cmpi .slt (res_main_indices U) (broadcastInDim S2x49x4 ![] bcast_S_S2x49x4 (constantI S_ 32 0#32)))
      (addi (res_main_indices U) (broadcastInDim S2x49x4 ![] bcast_S_S2x49x4 (constantI S_ 32 49#32))) (res_main_indices U))

/-- A word that names a window is that window's number. -/
theorem wordsR_apply (n : Fin 2) (w : Fin 49) (t : Fin 4) : wordsR U (ix4 n w t 0) = BitVec.ofNat 32 (route (res_main_v107 U) n w t).val := by
  have h : (res_main_indices U : Vec Ideal S2x49x4 .i32) (ix3 n w t) = BitVec.ofNat 32 (route (res_main_v107 U) n w t).val := route_spec _ n w t
  pointwise [wordsR]
  rw [h]
  exact (by decide : ∀ k : Fin 49, Scalar.select (IntOp.cmpi .slt (BitVec.ofNat 32 k.val) 0#32) (IntOp.addi (BitVec.ofNat 32 k.val) 49#32)
    (BitVec.ofNat 32 k.val) = BitVec.ofNat 32 k.val) _

/-- Where the gather reads: the window its word names, the rest of the index as it is. -/
theorem gather_at (idx : IVec S2x49x4x1 32) (n : Fin 2) (w : Fin 49) (t : Fin 4) (j : Fin 16) (x : Fin 192) (r : Fin 49)
    (h : idx (ix4 n w t 0) = BitVec.ofNat 32 r.val) :
    GatherDims.operandIdx gather_S2x49x16x192_S2x49x4x1_S2x49x4x16x192_34_1_0_0_1_3_1116192 (ix5 n w t j x) idx = ix4 n r j x := by
  have hs : GatherDims.siIdx gather_S2x49x16x192_S2x49x4x1_S2x49x4x16x192_34_1_0_0_1_3_1116192 (ix5 n w t j x) ⟨0, by decide⟩ = ix4 n w t 0 := by
    funext b
    fin_cases b <;> rfl
  have hw : ∀ k : Fin 49, min (BitVec.ofNat 32 k.val).toInt.toNat 48 = k.val := by decide
  funext a
  refine Fin.ext ?_
  change GatherDims.start _ _ _ a + GatherDims.batchCoord _ _ a + GatherDims.offCoord _ _ a = _
  fin_cases a
  · change 0 + _ + 0 = _
    rw [zero_add, add_zero]
    rfl
  · have e : GatherDims.start gather_S2x49x16x192_S2x49x4x1_S2x49x4x16x192_34_1_0_0_1_3_1116192 (ix5 n w t j x) idx 1
        = min (idx (GatherDims.siIdx gather_S2x49x16x192_S2x49x4x1_S2x49x4x16x192_34_1_0_0_1_3_1116192 (ix5 n w t j x) ⟨0, by decide⟩)).toInt.toNat 48 := rfl
    rw [hs, h, hw] at e
    exact congrArg (· + 0 + 0) e
  · change 0 + 0 + _ = _
    rw [zero_add, zero_add]
    rfl
  · change 0 + 0 + _ = _
    rw [zero_add, zero_add]
    rfl

/-- The averaged keys and values of the windows a window is routed to. -/
theorem v114_apply (n : Fin 2) (w : Fin 49) (t : Fin 4) (j : Fin 16) (x : Fin 192) :
    (res_main_v114 U : Vec Ideal S2x49x4x16x192 .f32) (ix5 n w t j x) = pooledR U (ix4 n (route (res_main_v107 U) n w t) j x) :=
  congrArg (pooledR U) (gather_at (wordsR U) n w t j x _ (wordsR_apply U n w t))

end Cert.Value
end
-- ==== Proof.Value.RefAtt.lean ====
/- The reference's attention at an index. -/
module

public import proofs.«01_k».proof.Proof.Value.RefPool
public import proofs.«01_k».proof.Proof.Value.Att

@[expose] public section

noncomputable section

namespace Cert.Value

open Cert.ReferenceIdeal Cert.ReferenceIdeal.Gen Cert.ReferenceIdeal.Value
open Idealize.ShloMosaic
open Idealize.ShloMosaic.TcCoe

variable (U : Valuation τ sig (Elt Ideal)) (X : (⟨4, ![2, 96, 224, 224]⟩ : Shape).Idx → EReal) (W : (⟨2, ![96, 288]⟩ : Shape).Idx → EReal)
  (B : (⟨1, ![288]⟩ : Shape).Idx → EReal)
  (hX : U (Proc.devRef .tc main_arg0) = X) (hW : U (Proc.devRef .tc main_arg1) = W) (hB : U (Proc.devRef .tc main_arg2) = B)

/-- The reference's scores. -/
def scoresR : S98x8x1024x64.Idx → EReal := res_main_v127 U

/-- The reference's exponentials. -/
def expR : S98x8x1024x64.Idx → EReal := res_main_v134 U

/-- The keys and values of the windows each window is routed to. -/
def routedR : S2x49x4x16x192.Idx → EReal := res_main_v114 U

/-- The reference's projection. -/
def projR : S2x49x32x32x288.Idx → EReal := res_main_v7 U

/-- The scores, from the projection and the routed keys. -/
theorem v127_raw (w : Fin 98) (h : Fin 8) (p : Fin 1024) (j : Fin 64) :
    scoresR U (ix4 w h p j)
      = ∑ x : Fin 12, projR U (ix5 ⟨w.val / 49, by omega⟩ ⟨w.val % 49, by omega⟩ ⟨p.val / 32, by omega⟩
          ⟨p.val % 32, by omega⟩ ⟨h.val * 12 + x.val, by omega⟩) * Ideal.ofBits .f32 0x3DD105EC#32
        * routedR U (ix5 ⟨w.val / 49, by omega⟩ ⟨w.val % 49, by omega⟩ ⟨j.val / 16, by omega⟩
          ⟨j.val % 16, by omega⟩ ⟨h.val * 12 + x.val, by omega⟩) := by
  pointwise [scoresR, res_main_v127, res_main_v8]
  rfl

/-- The queries of the pixel `p` of window `w`. -/
abbrev qR (w : Fin 98) (p : Fin 1024) : Fin 96 → EReal :=
  qfun X W B ⟨w.val / 49, by omega⟩ ⟨w.val % 49 / 7 * 32 + p.val / 32, by omega⟩ ⟨w.val % 49 % 7 * 32 + p.val % 32, by omega⟩

/-- The keys and values window `w` attends to. -/
abbrev kR (w : Fin 98) : Fin 64 → Fin 192 → EReal :=
  kfun X W B (route (res_main_v107 U) ⟨w.val / 49, by omega⟩ ⟨w.val % 49, by omega⟩) ⟨w.val / 49, by omega⟩

include hX hW hB in
/-- The routed keys and values, at an index. -/
theorem v114_key (w : Fin 98) (j : Fin 64) (x : Fin 192) :
    routedR U (ix5 ⟨w.val / 49, by omega⟩ ⟨w.val % 49, by omega⟩ ⟨j.val / 16, by omega⟩
      ⟨j.val % 16, by omega⟩ x) = kR U X W B w j x := by
  refine (v114_apply U _ _ _ _ _).trans ((pooledR_apply U X W B hX hW hB _ _ _ _).trans ?_)
  unfold kR kfun
  congr 1
  exact Fin.ext (by simp only; omega)

include hX hW hB in
/-- The scores are the specification's. -/
theorem v127_apply (w : Fin 98) (h : Fin 8) (p : Fin 1024) (j : Fin 64) :
    scoresR U (ix4 w h p j) = hs (qR X W B w p) (kR U X W B w) h j := by
  rw [v127_raw]
  unfold hs
  refine Finset.sum_congr rfl fun x _ => ?_
  exact congrArg₂ (fun a b => a * Ideal.ofBits .f32 0x3DD105EC#32 * b) (v7_apply U X W B hX hW hB _ _ _ _ _) (v114_key U X W B hX hW hB w j ⟨h.val * 12 + x.val, by omega⟩)

/-- The sum over the last axis. -/
theorem row_sumR (v : S98x8x1024x64.Idx → EReal) (w : Fin 98) (h : Fin 8) (p : Fin 1024) :
    ∑ i ∈ Finset.univ.filter (fun i => reducesTo_S98x8x1024x64_S98x8x1024_d3.drop i = ix3 w h p), v i = ∑ j : Fin 64, v (ix4 w h p j) := by
  have r := reducesTo_S98x8x1024x64_S98x8x1024_d3
  refine Finset.sum_bij' (fun i _ => i 3) (fun j _ => ix4 w h p j) ?_ ?_ ?_ ?_ ?_
  · exact fun i _ => Finset.mem_univ _
  · intro j _
    refine Finset.mem_filter.2 ⟨Finset.mem_univ _, ?_⟩
    funext b
    fin_cases b <;> rfl
  · intro i hi
    have hi := (Finset.mem_filter.1 hi).2
    change r.drop i = _ at hi
    have e := fun b : Fin 3 => congrArg Fin.val (congrFun hi b)
    have e0 := (r.drop_apply_val_of_eq i 0 0).symm.trans (e 0)
    have e1 := (r.drop_apply_val_of_eq i 1 1).symm.trans (e 1)
    have e2 := (r.drop_apply_val_of_eq i 2 2).symm.trans (e 2)
    funext b
    fin_cases b
    · exact Fin.ext e0.symm
    · exact Fin.ext e1.symm
    · exact Fin.ext e2.symm
    · rfl
  · exact fun _ _ => rfl
  · intro i hi
    have hi := (Finset.mem_filter.1 hi).2
    change r.drop i = _ at hi
    have e := fun b : Fin 3 => congrArg Fin.val (congrFun hi b)
    have e0 := (r.drop_apply_val_of_eq i 0 0).symm.trans (e 0)
    have e1 := (r.drop_apply_val_of_eq i 1 1).symm.trans (e 1)
    have e2 := (r.drop_apply_val_of_eq i 2 2).symm.trans (e 2)
    refine congrArg v ?_
    funext b
    fin_cases b
    · exact Fin.ext e0
    · exact Fin.ext e1
    · exact Fin.ext e2
    · rfl

/-- The greatest of a nonempty list of reals, from minus infinity or a real, is real. -/
theorem foldl_real {ι : Type} (f : ι → EReal) (hf : ∀ i, IsReal (f i)) (l : List ι) (r : EReal) (hr : r = ⊥ ∨ IsReal r) (hl : l ≠ [] ∨ IsReal r) :
    IsReal (l.foldl (fun r i => max r (f i)) r) := by
  induction l generalizing r with
  | nil => exact hl.resolve_left fun h => h rfl
  | cons a l ih =>
    have h : IsReal (max r (f a)) := by
      rcases hr with rfl | hr
      · rw [max_eq_right bot_le]; exact hf a
      · rcases max_choice r (f a) with e | e <;> rw [e]
        · exact hr
        · exact hf a
    exact ih _ (Or.inr h) (Or.inr h)

/-- A reduction of reals to their greatest is real where it reduces anything. -/
theorem reduce_max_real {s t u : Shape} {axes : List (Fin s.rank)} (x : FVec Ideal s .f32) (hx : ∀ i, IsReal (x i)) (init : FVec Ideal u .f32)
    (h0 : ∀ i, init i = (⊥ : EReal)) (h : s.ReducesTo axes t) (hu : 0 < u.numel) (i : s.Idx) :
    IsReal (Host.reduce (FloatOps.maximumf (F := Ideal) (φ := .f32)) x init h hu (h.drop i)) := by
  refine foldl_real (fun n => x (s.rowMajor.symm n)) (fun n => hx _) _ _ (Or.inl (h0 _)) (Or.inl (List.ne_nil_of_mem (a := s.rowMajor i) ?_))
  refine List.mem_filter.2 ⟨List.mem_finRange _, ?_⟩
  rw [Equiv.symm_apply_apply]
  exact decide_eq_true rfl

/-- The exponentials of scores, a number for each row taken off it. -/
def expOf (s : FVec Ideal S98x8x1024x64 .f32) (m : FVec Ideal S98x8x1024 .f32) : FVec Ideal S98x8x1024x64 .f32 :=
  Host.exp (subf s (broadcastInDim S98x8x1024x64 ![0, 1, 2, 3] bcast_S98x8x1024x1_S98x8x1024x64_0_1_2_3
    (broadcastInDim S98x8x1024x1 ![0, 1, 2] bcast_S98x8x1024_S98x8x1024x1_0_1_2
      (maximumf (broadcastInDim S98x8x1024 ![] bcast_S_S98x8x1024 (constant S_ .f32 0xFF800000#32)) m))))

/-- The exponentials at an index. -/
theorem expOf_apply (s : FVec Ideal S98x8x1024x64 .f32) (m : FVec Ideal S98x8x1024 .f32) (w : Fin 98) (h : Fin 8) (p : Fin 1024) (j : Fin 64) :
    expOf s m (ix4 w h p j) = Ideal.exp (s (ix4 w h p j) - max (Ideal.ofBits .f32 0xFF800000#32) (m (ix3 w h p))) := by
  pointwise [expOf]

/-- Each row's greatest score. -/
def rowMax (s : FVec Ideal S98x8x1024x64 .f32) : FVec Ideal S98x8x1024 .f32 :=
  Host.reduce FloatOps.maximumf s (constant S_ .f32 0xFF800000#32) reducesTo_S98x8x1024x64_S98x8x1024_d3 h_S_

/-- Each row's greatest score is real. -/
theorem rowMax_real (s : FVec Ideal S98x8x1024x64 .f32) (hs : ∀ i, IsReal (s i)) (w : Fin 98) (h : Fin 8) (p : Fin 1024) :
    IsReal (rowMax s (ix3 w h p)) := by
  have e : reducesTo_S98x8x1024x64_S98x8x1024_d3.drop (ix4 w h p 0) = ix3 w h p := by
    funext b
    fin_cases b <;> rfl
  rw [← e]
  exact reduce_max_real s hs _ (fun _ => ofBits_neg_inf) _ _ _

/-- The exponentials are those of the scores, each row's greatest score taken off it. -/
theorem expR_eq : expR U = expOf (scoresR U) (rowMax (scoresR U)) := rfl

include hX hW hB in
/-- The exponentials are of the scores less one real number for each row. -/
theorem v134_apply (hF : Finite X W B) (w : Fin 98) (h : Fin 8) (p : Fin 1024) :
    ∃ M, IsReal M ∧ ∀ j, expR U (ix4 w h p j) = Ideal.exp (hs (qR X W B w p) (kR U X W B w) h j - M) := by
  refine ⟨_, ?_, fun j => (congrFun (expR_eq U) _).trans ((expOf_apply _ _ w h p j).trans (by rw [v127_apply U X W B hX hW hB]))⟩
  rw [ofBits_neg_inf, max_eq_right bot_le]
  refine rowMax_real _ (fun i => ?_) w h p
  obtain ⟨a, b, c, d, rfl⟩ : ∃ (a : Fin 98) (b : Fin 8) (c : Fin 1024) (d : Fin 64), i = ix4 a b c d := by
    refine ⟨i 0, i 1, i 2, i 3, ?_⟩
    funext k
    fin_cases k <;> rfl
  rw [v127_apply U X W B hX hW hB]
  exact hs_real (qfun_real hF _ _ _) (kfun_real hF _ _) _ _

/-- The attention, head by head. -/
def attR : Vec Ideal S98x8x1024x12 .f32 :=
  Host.dotGeneral (F := Ideal) (φ₁ := .f32) (φ₂ := .f32) dot_S98x8x1024x64_S98x8x64x12_S98x8x1024x12_3_2_2_3_01_01 none
    (Host.divf (F := Ideal) (φ := .f32) (expR U) (broadcastInDim S98x8x1024x64 ![0, 1, 2, 3] bcast_S98x8x1024x1_S98x8x1024x64_0_1_2_3
      (broadcastInDim S98x8x1024x1 ![0, 1, 2] bcast_S98x8x1024_S98x8x1024x1_0_1_2
        (Host.reduceAdd (F := Ideal) (φ := .f32) (expR U) (constant S_ .f32 0x00000000#32) reducesTo_S98x8x1024x64_S98x8x1024_d3 h_S_))))
    (shapeCast _ (transpose S98x8x4x16x12 [0, 3, 1, 2, 4] (shapeCast _ (extractStridedSlice S2x49x4x16x96 ![0, 0, 0, 0, 96] (routedR U)
      slices_S2x49x4x16x192_S2x49x4x16x96_0_0_0_0_96) shapeCasts_S2x49x4x16x96_S98x4x16x8x12) transposes_S98x4x16x8x12_S98x8x4x16x12_0_3_1_2_4)
      shapeCasts_S98x8x4x16x12_S98x8x64x12)

/-- The attention at an index, from the exponentials and the routed values. -/
theorem attR_raw (w : Fin 98) (h : Fin 8) (p : Fin 1024) (x : Fin 12) :
    attR U (ix4 w h p x) = ∑ j : Fin 64, Ideal.div (expR U (ix4 w h p j))
        (Ideal.hostReduceAdd reducesTo_S98x8x1024x64_S98x8x1024_d3 (expR U) 0 (ix3 w h p))
      * routedR U (ix5 ⟨w.val / 49, by omega⟩ ⟨w.val % 49, by omega⟩ ⟨j.val / 16, by omega⟩
          ⟨j.val % 16, by omega⟩ ⟨96 + (h.val * 12 + x.val), by omega⟩) := by
  pointwise [attR]

include hX hW hB in
/-- The attention is the specification's, whichever real number is taken off the scores. -/
theorem attR_apply (hF : Finite X W B) {M : EReal} (hM : IsReal M) (w : Fin 98) (h : Fin 8) (p : Fin 1024) (x : Fin 12) :
    attR U (ix4 w h p x) = attS (qR X W B w p) (kR U X W B w) M ⟨h.val * 12 + x.val, by omega⟩ := by
  obtain ⟨M', hM', e⟩ := v134_apply U X W B hX hW hB hF w h p
  rw [attS_eq (qfun_real hF _ _ _) (kfun_real hF _ _) _ hM hM', attR_raw]
  have hh : (⟨(h.val * 12 + x.val) / 12, by omega⟩ : Fin 8) = h := Fin.ext (by simp only; omega)
  unfold attS Ideal.hostReduceAdd
  simp only [hh]
  refine Finset.sum_congr rfl fun j _ => ?_
  rw [zero_add, row_sumR, e j, Finset.sum_congr rfl fun k _ => e k]
  exact congrArg (_ * ·) (v114_key U X W B hX hW hB w j ⟨96 + (h.val * 12 + x.val), by omega⟩)

end Cert.Value
end
-- ==== Proof.Value.RefConv.lean ====
/- The reference's convolution of the values at an index. -/
module

public import proofs.«01_k».proof.Proof.Value.Ref

@[expose] public section

noncomputable section

namespace Cert.Value

open Cert.ReferenceIdeal Cert.ReferenceIdeal.Gen Cert.ReferenceIdeal.Value
open Idealize.ShloMosaic
open Idealize.ShloMosaic.TcCoe

variable (U : Valuation τ sig (Elt Ideal)) (X : (⟨4, ![2, 96, 224, 224]⟩ : Shape).Idx → EReal) (W : (⟨2, ![96, 288]⟩ : Shape).Idx → EReal)
  (B : (⟨1, ![288]⟩ : Shape).Idx → EReal)
  (hX : U (Proc.devRef .tc main_arg0) = X) (hW : U (Proc.devRef .tc main_arg1) = W) (hB : U (Proc.devRef .tc main_arg2) = B)

/-- An image with a border of zeros one pixel wide. -/
def padded (v : Vec Ideal S2x96x224x224 .f32) : Vec Ideal S2x96x226x226 .f32 :=
  pad S2x96x226x226 ![0, 0, 1, 1] ![0, 0, 1, 1] ![0, 0, 0, 0] v (sitofp (F := Ideal) .f32 (constantI S_ 32 0#32))
    pads_S2x96x224x224_S2x96x226x226_000_000_110_110 h_S_

/-- The padding, at an index. -/
theorem padded_apply (v : Vec Ideal S2x96x224x224 .f32) (n : Fin 2) (ch : Fin 96) (R C : Fin 226) :
    padded v (ix4 n ch R C)
      = if h : 1 ≤ R.val ∧ R.val ≤ 224 ∧ 1 ≤ C.val ∧ C.val ≤ 224 then v (ix4 n ch ⟨R.val - 1, by omega⟩ ⟨C.val - 1, by omega⟩) else 0 := by
  have e0 : FloatOps.sitofp (F := Ideal) .f32 0#32 = (0 : EReal) := by
    show ((((0#32 : BitVec 32).toInt : ℤ) : ℝ) : EReal) = 0
    simp
  by_cases h : 1 ≤ R.val ∧ R.val ≤ 224 ∧ 1 ≤ C.val ∧ C.val ≤ 224
  · rw [dif_pos h]
    pointwise [padded]
    exact dif_pos ⟨⟨h.1, by omega⟩, h.2.2.1, by omega⟩
  · rw [dif_neg h]
    pointwise [padded]
    exact (dif_neg fun hn => h ⟨hn.1.1, by omega, hn.2.1, by omega⟩).trans e0

include hX hW hB in
/-- The padded image of the values. -/
theorem padded_v29 (n : Fin 2) (ch : Fin 96) (R C : Fin 226) :
    padded (res_main_v29 U) (ix4 n ch R C) = vpad X W B n ch R.val C.val := by
  rw [padded_apply]
  unfold vpad
  by_cases h : 1 ≤ R.val ∧ R.val ≤ 224 ∧ 1 ≤ C.val ∧ C.val ≤ 224
  · rw [dif_pos h, dif_pos h, v29_apply U X W B hX hW hB]
  · rw [dif_neg h, dif_neg h]

/-- A product of the convolution, over the whole image. -/
def tapR (v : Vec Ideal S2x96x226x226 .f32) (WL : Vec Ideal S96x1x3x3 .f32) (dy dx : Fin 3) (h : S2x96x226x226.Slices ![0, 0, dy.val, dx.val] S2x96x224x224)
    (h' : S96x1x3x3.Slices ![0, 0, dy.val, dx.val] S96x1x1x1) : Vec Ideal S2x96x224x224 .f32 :=
  mulf (F := Ideal) (φ := .f32) (extractStridedSlice S2x96x224x224 ![0, 0, dy.val, dx.val] v h)
      (broadcastInDim S2x96x224x224 ![0, 1, 2, 3] bcast_S1x96x1x1_S2x96x224x224_0_1_2_3 (broadcastInDim S1x96x1x1 ![1] bcast_S96_S1x96x1x1_1
        (shapeCast S96 (extractStridedSlice S96x1x1x1 ![0, 0, dy.val, dx.val] WL h') shapeCasts_S96x1x1x1_S96)))

/-- A product of the convolution, at an index. -/
theorem tapR_apply (v : Vec Ideal S2x96x226x226 .f32) (WL : Vec Ideal S96x1x3x3 .f32) (dy dx : Fin 3) (h : S2x96x226x226.Slices ![0, 0, dy.val, dx.val] S2x96x224x224)
    (h' : S96x1x3x3.Slices ![0, 0, dy.val, dx.val] S96x1x1x1) (n : Fin 2) (ch : Fin 96) (R C : Fin 224) :
    tapR v WL dy dx h h' (ix4 n ch R C) = v (ix4 n ch ⟨dy.val + R.val, by omega⟩ ⟨dx.val + C.val, by omega⟩) * WL (ix4 ch 0 dy dx) := by
  pointwise [tapR]

/-- The reference's convolution of the values. -/
def lepeR : Vec Ideal S2x96x224x224 .f32 :=
  addf (F := Ideal) (φ := .f32) (addf (F := Ideal) (φ := .f32) (res_main_v86 U)
    (tapR (padded (res_main_v29 U)) (U (Proc.devRef .tc main_arg3)) 2 1 slices_S2x96x226x226_S2x96x224x224_0_0_2_1 slices_S96x1x3x3_S96x1x1x1_0_0_2_1))
    (tapR (padded (res_main_v29 U)) (U (Proc.devRef .tc main_arg3)) 2 2 slices_S2x96x226x226_S2x96x224x224_0_0_2_2 slices_S96x1x3x3_S96x1x1x1_0_0_2_2)

include hX hW hB in
/-- The reference's convolution of the values, at an index. -/
theorem lepeR_apply (WL : (⟨4, ![96, 1, 3, 3]⟩ : Shape).Idx → EReal) (hL : U (Proc.devRef .tc main_arg3) = WL) (n : Fin 2) (ch : Fin 96) (R C : Fin 224) :
    lepeR U (ix4 n ch R C) = lepe X W B WL n ch R C := by
  have ht : ∀ dy dx h h', tapR (padded (res_main_v29 U)) WL dy dx h h' (ix4 n ch R C)
      = vpad X W B n ch (R.val + dy.val) (C.val + dx.val) * WL (ix4 ch 0 dy dx) := by
    intro dy dx h h'
    rw [tapR_apply, padded_v29 U X W B hX hW hB]
    simp only [Nat.add_comm]
  have e0 : Ideal.ofBits .f32 0x00000000#32 = 0 := by simp [Ideal.ofBits, Ideal.ieee]
  unfold lepeR res_main_v86
  rw [hL]
  change Ideal.ofBits .f32 0x00000000#32
      + tapR (padded (res_main_v29 U)) WL 0 0 slices_S2x96x226x226_S2x96x224x224_0_0_0_0 slices_S96x1x3x3_S96x1x1x1_0_0_0_0 (ix4 n ch R C)
      + tapR (padded (res_main_v29 U)) WL 0 1 slices_S2x96x226x226_S2x96x224x224_0_0_0_1 slices_S96x1x3x3_S96x1x1x1_0_0_0_1 (ix4 n ch R C)
      + tapR (padded (res_main_v29 U)) WL 0 2 slices_S2x96x226x226_S2x96x224x224_0_0_0_2 slices_S96x1x3x3_S96x1x1x1_0_0_0_2 (ix4 n ch R C)
      + tapR (padded (res_main_v29 U)) WL 1 0 slices_S2x96x226x226_S2x96x224x224_0_0_1_0 slices_S96x1x3x3_S96x1x1x1_0_0_1_0 (ix4 n ch R C)
      + tapR (padded (res_main_v29 U)) WL 1 1 slices_S2x96x226x226_S2x96x224x224_0_0_1_1 slices_S96x1x3x3_S96x1x1x1_0_0_1_1 (ix4 n ch R C)
      + tapR (padded (res_main_v29 U)) WL 1 2 slices_S2x96x226x226_S2x96x224x224_0_0_1_2 slices_S96x1x3x3_S96x1x1x1_0_0_1_2 (ix4 n ch R C)
      + tapR (padded (res_main_v29 U)) WL 2 0 slices_S2x96x226x226_S2x96x224x224_0_0_2_0 slices_S96x1x3x3_S96x1x1x1_0_0_2_0 (ix4 n ch R C)
      + tapR (padded (res_main_v29 U)) WL 2 1 slices_S2x96x226x226_S2x96x224x224_0_0_2_1 slices_S96x1x3x3_S96x1x1x1_0_0_2_1 (ix4 n ch R C)
      + tapR (padded (res_main_v29 U)) WL 2 2 slices_S2x96x226x226_S2x96x224x224_0_0_2_2 slices_S96x1x3x3_S96x1x1x1_0_0_2_2 (ix4 n ch R C) = _
  rw [e0, zero_add, ht, ht, ht, ht, ht, ht, ht, ht, ht]
  rfl

end Cert.Value
end
-- ==== Proof.Value.RefOut.lean ====
/- The reference's result is the specification's. -/
module

public import proofs.«01_k».proof.Proof.Value.RefAtt
public import proofs.«01_k».proof.Proof.Value.RefConv
public import proofs.«01_k».proof.Proof.Value.Call1

@[expose] public section

noncomputable section

namespace Cert.Value

open Cert.ReferenceIdeal Cert.ReferenceIdeal.Gen Cert.ReferenceIdeal.Value
open Idealize.ShloMosaic
open Idealize.ShloMosaic.TcCoe

variable (U : Valuation τ sig (Elt Ideal)) (X : (⟨4, ![2, 96, 224, 224]⟩ : Shape).Idx → EReal) (W : (⟨2, ![96, 288]⟩ : Shape).Idx → EReal)
  (B : (⟨1, ![288]⟩ : Shape).Idx → EReal)
  (hX : U (Proc.devRef .tc main_arg0) = X) (hW : U (Proc.devRef .tc main_arg1) = W) (hB : U (Proc.devRef .tc main_arg2) = B)
  (WL : (⟨4, ![96, 1, 3, 3]⟩ : Shape).Idx → EReal) (WO : (⟨2, ![96, 96]⟩ : Shape).Idx → EReal) (BO : (⟨1, ![96]⟩ : Shape).Idx → EReal)

/-- The output from the attention, the convolution, and the last projection. -/
def outOf (a : FVec Ideal S98x8x1024x12 .f32) (l : FVec Ideal S2x96x224x224 .f32) (wo : FVec Ideal S96x96 .f32) (bo : FVec Ideal S96 .f32) :
    FVec Ideal S2x96x224x224 .f32 :=
  transpose S2x96x224x224 [0, 3, 1, 2] (addf (Host.dotGeneral dot_S2x224x224x96_S96x96_S2x224x224x96_3_0_012_1_n_n none
    (addf (shapeCast S2x224x224x96 (transpose S2x7x32x7x32x8x12 [0, 1, 4, 2, 5, 3, 6] (shapeCast S2x7x7x8x32x32x12 a shapeCasts_S98x8x1024x12_S2x7x7x8x32x32x12)
      transposes_S2x7x7x8x32x32x12_S2x7x32x7x32x8x12_0_1_4_2_5_3_6) shapeCasts_S2x7x32x7x32x8x12_S2x224x224x96)
      (transpose S2x224x224x96 [0, 2, 3, 1] l transposes_S2x96x224x224_S2x224x224x96_0_2_3_1)) wo)
    (broadcastInDim S2x224x224x96 ![0, 1, 2, 3] bcast_S1x1x1x96_S2x224x224x96_0_1_2_3 (broadcastInDim S1x1x1x96 ![3] bcast_S96_S1x1x1x96_3 bo)))
    transposes_S2x224x224x96_S2x96x224x224_0_3_1_2

/-- The output at an index. -/
theorem outOf_apply (a : FVec Ideal S98x8x1024x12 .f32) (l : FVec Ideal S2x96x224x224 .f32) (wo : FVec Ideal S96x96 .f32) (bo : FVec Ideal S96 .f32)
    (n : Fin 2) (o : Fin 96) (R C : Fin 224) :
    outOf a l wo bo (ix4 n o R C)
      = (∑ ch : Fin 96, (a (ix4 ⟨n.val * 49 + (R.val / 32 * 7 + C.val / 32), by omega⟩ ⟨ch.val / 12, by omega⟩ ⟨R.val % 32 * 32 + C.val % 32, by omega⟩
          ⟨ch.val % 12, by omega⟩) + l (ix4 n ch R C)) * wo (ix2 ch o)) + bo (ix1 o) := by
  pointwise [outOf]
  simp only [Nat.add_assoc]

/-- The reference's result. -/
def resR : FVec Ideal S2x96x224x224 .f32 :=
  outOf (attR U) (lepeR U) (U (Proc.devRef .tc main_arg4)) (U (Proc.devRef .tc main_arg5))

/-- The window, row and column of a pixel give back its row and column. -/
theorem pixel (n : Fin 2) (R C : Fin 224) (w : Fin 98) (p : Fin 1024) (hw : w.val = n.val * 49 + (R.val / 32 * 7 + C.val / 32))
    (hp : p.val = R.val % 32 * 32 + C.val % 32) :
    w.val / 49 = n.val ∧ w.val % 49 = R.val / 32 * 7 + C.val / 32 ∧ w.val % 49 / 7 * 32 + p.val / 32 = R.val
      ∧ w.val % 49 % 7 * 32 + p.val % 32 = C.val := by
  omega

include hX hW hB in
/-- The attention at a pixel. -/
theorem attR_pixel (hF : Finite X W B) {M : EReal} (hM : IsReal M) (n : Fin 2) (ch : Fin 96) (R C : Fin 224) :
    attR U (ix4 ⟨n.val * 49 + (R.val / 32 * 7 + C.val / 32), by omega⟩ ⟨ch.val / 12, by omega⟩ ⟨R.val % 32 * 32 + C.val % 32, by omega⟩
          ⟨ch.val % 12, by omega⟩)
      = attS (qfun X W B n R C) (kfun X W B (route (res_main_v107 U) n (winOf R C)) n) M ch := by
  rw [attR_apply U X W B hX hW hB hF hM]
  obtain ⟨e1, e2, e3, e4⟩ := pixel n R C ⟨n.val * 49 + (R.val / 32 * 7 + C.val / 32), by omega⟩ ⟨R.val % 32 * 32 + C.val % 32, by omega⟩ rfl rfl
  have h1 : (⟨(n.val * 49 + (R.val / 32 * 7 + C.val / 32)) / 49, by omega⟩ : Fin 2) = n := Fin.ext e1
  have h2 : (⟨(n.val * 49 + (R.val / 32 * 7 + C.val / 32)) % 49, by omega⟩ : Fin 49) = winOf R C := Fin.ext e2
  have h3 : (⟨(n.val * 49 + (R.val / 32 * 7 + C.val / 32)) % 49 / 7 * 32 + (R.val % 32 * 32 + C.val % 32) / 32, by omega⟩ : Fin 224) = R := Fin.ext e3
  have h4 : (⟨(n.val * 49 + (R.val / 32 * 7 + C.val / 32)) % 49 % 7 * 32 + (R.val % 32 * 32 + C.val % 32) % 32, by omega⟩ : Fin 224) = C := Fin.ext e4
  have h5 : (⟨ch.val / 12 * 12 + ch.val % 12, by omega⟩ : Fin 96) = ch := Fin.ext (by simp only; omega)
  simp only [qR, kR, h1, h2, h3, h4, h5]

include hX hW hB in
/-- The reference's result is the specification's output. -/
theorem resR_eq (hF : Finite X W B) (hL : U (Proc.devRef .tc main_arg3) = WL) (hO : U (Proc.devRef .tc main_arg4) = WO)
    (hBO : U (Proc.devRef .tc main_arg5) = BO) {M : EReal} (hM : IsReal M) : resR U = outArr X W B WL WO BO (route (res_main_v107 U)) M := by
  funext i
  obtain ⟨n, o, R, C, rfl⟩ : ∃ (n : Fin 2) (o : Fin 96) (R C : Fin 224), i = ix4 n o R C := by
    refine ⟨i 0, i 1, i 2, i 3, ?_⟩
    funext k
    fin_cases k <;> rfl
  refine (outOf_apply _ _ _ _ n o R C).trans ?_
  change _ = outp X W B WL WO BO (route (res_main_v107 U) n (winOf R C)) M n o R C
  unfold outp
  rw [hO, hBO]
  refine congrArg (· + _) (Finset.sum_congr rfl fun ch _ => ?_)
  rw [attR_pixel U X W B hX hW hB hF hM, lepeR_apply U X W B hX hW hB WL hL]

end Cert.Value
end
-- ==== Proof.Value.Algebraic.lean ====
/- The kernel's result is the reference's, from the same arguments. -/
module

public import proofs.«01_k».proof.Proof.Value.Host
public import proofs.«01_k».proof.Proof.Value.Finite
public import proofs.«01_k».proof.Proof.Value.RefOut

@[expose] public section

noncomputable section

namespace Cert.Value

open Idealize.ShloMosaic
open Idealize.ShloMosaic.TcCoe

/-- What the kernel leaves is the reference's result, the arguments being equal and the precondition holding. -/
theorem res1_eq (m : (ℓ : Loc Cert.KernelIdeal.nD Cert.KernelIdeal.τ Cert.KernelIdeal.sig) → Buf (Elt Ideal) ℓ) (c : Dev Cert.KernelIdeal.nD)
    (U : Valuation Cert.ReferenceIdeal.τ Cert.ReferenceIdeal.sig (Elt Ideal))
    (hpre : Cert.Pre_KernelIdeal_usual_inputs m)
    (h0 : U (Proc.devRef .tc Cert.ReferenceIdeal.main_arg0) = m ((c.tc : Thread Cert.KernelIdeal.nD Cert.KernelIdeal.τ).loc Cert.KernelIdeal.main_arg0))
    (h1 : U (Proc.devRef .tc Cert.ReferenceIdeal.main_arg1) = m ((c.tc : Thread Cert.KernelIdeal.nD Cert.KernelIdeal.τ).loc Cert.KernelIdeal.main_arg1))
    (h2 : U (Proc.devRef .tc Cert.ReferenceIdeal.main_arg2) = m ((c.tc : Thread Cert.KernelIdeal.nD Cert.KernelIdeal.τ).loc Cert.KernelIdeal.main_arg2))
    (h3 : U (Proc.devRef .tc Cert.ReferenceIdeal.main_arg3) = m ((c.tc : Thread Cert.KernelIdeal.nD Cert.KernelIdeal.τ).loc Cert.KernelIdeal.main_arg3))
    (h4 : U (Proc.devRef .tc Cert.ReferenceIdeal.main_arg4) = m ((c.tc : Thread Cert.KernelIdeal.nD Cert.KernelIdeal.τ).loc Cert.KernelIdeal.main_arg4))
    (h5 : U (Proc.devRef .tc Cert.ReferenceIdeal.main_arg5) = m ((c.tc : Thread Cert.KernelIdeal.nD Cert.KernelIdeal.τ).loc Cert.KernelIdeal.main_arg5)) :
    resR U = Cert.KernelIdeal.Run.res1 m c := by
  obtain ⟨hF, hB⟩ := finite_of_pre _ _ _ _ _ _ (congrFun (hpre c) fun i => i.elim0)
  have hM : IsReal 0 := ⟨0, rfl⟩
  exact (resR_eq U _ _ _ h0 h1 h2 _ _ _ hF h3 h4 h5 hM).trans (call1_out (entry m c U h0.symm h1.symm h2.symm) hF hB hM).symm

end Cert.Value

namespace Cert.Proof

open Idealize.ShloMosaic Cert.Value

/-- The reference runs, keeps its arguments and ends with the result described. -/
theorem run_reference (m : (ℓ : Loc Cert.ReferenceIdeal.nD Cert.ReferenceIdeal.τ Cert.ReferenceIdeal.sig) → Buf (Elt Ideal) ℓ)
    (g : Dev Cert.ReferenceIdeal.nD → PrngReg) (v : (c : Dev Cert.ReferenceIdeal.nD) → FVec Ideal Cert.ReferenceIdeal.S2x96x224x224 .f32)
    (hv : ∀ c, resR (StableHlo.launchContents m c) = v c) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v148) = v c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run Cert.ReferenceIdeal.defs _ _).mono (fun _ h c => ⟨(h c).1.trans (hv c), (h c).2⟩) (Cert.ReferenceIdeal.Value.run (F := Ideal) m g)

/-- From equal arguments that satisfy the precondition, the kernel and the reference end with equal results. -/
theorem algebraic : Cert.algebraic_KernelIdeal_ReferenceIdeal_pre_usual_inputs := fun m g m' g' hpre hargs =>
  ⟨fun c => Cert.KernelIdeal.Run.res1 m c,
    (θ_run Cert.KernelIdeal.defs _ _).mono (fun _ h c => ⟨(h.1 c).2.2.2.2.2.2, (h.1 c).1, (h.1 c).2.1, (h.1 c).2.2.1, (h.1 c).2.2.2.1, (h.1 c).2.2.2.2.1,
      (h.1 c).2.2.2.2.2.1⟩) (Cert.KernelIdeal.Run.run (F := Ideal) m g),
    run_reference m' g' (fun c => Cert.KernelIdeal.Run.res1 m c) fun c =>
      res1_eq m c _ hpre (hargs c).1 (hargs c).2.1 (hargs c).2.2.1 (hargs c).2.2.2.1 (hargs c).2.2.2.2.1 (hargs c).2.2.2.2.2⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- Everything certified. -/
theorem claim : Cert.Claim := ⟨Cert.Kernel.Gen.facts, Cert.KernelIdeal.Gen.facts, Cert.ReferenceIdeal.Gen.facts,
  preFacts, frame_P, frame_PI, frame_PI_pre, frame_RI, frame_RI_pre, trivial, algebraic⟩

end Cert.Proof

end
